-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S8x2048x3584 : Shape := ⟨3, ![8, 2048, 3584]⟩
abbrev S3584x18944 : Shape := ⟨2, ![3584, 18944]⟩
abbrev S18944 : Shape := ⟨1, ![18944]⟩
abbrev S_ : Shape := ⟨0, ![]⟩
abbrev S8x2048 : Shape := ⟨2, ![8, 2048]⟩

class Facts : Prop where
  bitsLt_bf16_f32 : FTy.bits .bf16 < FTy.bits .f32
  reducesTo_S8x2048x3584_S8x2048_d2 : S8x2048x3584.ReducesTo [2] S8x2048
  h_S_ : 0 < S_.numel
  bcast_S_S8x2048 : S_.BroadcastsInDim S8x2048 (![] : Fin 0 → Fin S8x2048.rank)
  reducesTo_S8x2048_S_d0_1 : S8x2048.ReducesTo [0, 1] S_

variable [Facts]

def fn {F : FTy → Type} [FloatOps F] (main_arg0 : FVec F S8x2048x3584 .bf16) (main_arg1 : FVec F S3584x18944 .fp8e4m3) (main_arg2 : FVec F S18944 .f32) : IVec S_ 1 :=
  let main_v0 : FVec F S8x2048x3584 .f32 := (extf .f32 · bitsLt_bf16_f32) main_arg0
  let main_v1 : FVec F S8x2048x3584 .f32 := Host.absf main_v0
  let main_cst : FVec F S_ .f32 := constant S_ .f32 0xFF800000#32
  let main_v2 : FVec F S8x2048 .f32 := (fun x v => Host.reduce FloatOps.maximumf x v reducesTo_S8x2048x3584_S8x2048_d2 h_S_) main_v1 main_cst
  let main_cst_0 : FVec F S_ .f32 := constant S_ .f32 0x07000000#32
  let main_v3 : FVec F S8x2048 .f32 := broadcastInDim S8x2048 ![] bcast_S_S8x2048 main_cst_0
  let main_v4 : IVec S8x2048 1 := cmpf .oge main_v2 main_v3
  let main_cst_1 : FVec F S_ .f32 := constant S_ .f32 0x7F7F0000#32
  let main_v5 : FVec F S8x2048 .f32 := broadcastInDim S8x2048 ![] bcast_S_S8x2048 main_cst_1
  let main_v6 : IVec S8x2048 1 := cmpf .ole main_v2 main_v5
  let main_v7 : IVec S8x2048 1 := andi main_v4 main_v6
  let main_cst_2 : FVec F S_ .f32 := constant S_ .f32 0x00000000#32
  let main_v8 : FVec F S8x2048 .f32 := broadcastInDim S8x2048 ![] bcast_S_S8x2048 main_cst_2
  let main_v9 : IVec S8x2048 1 := cmpf .oeq main_v2 main_v8
  let main_v10 : IVec S8x2048 1 := ori main_v9 main_v7
  let main_cst_3 : FVec F S_ .f32 := constant S_ .f32 0x7F800000#32
  let main_v11 : FVec F S8x2048 .f32 := broadcastInDim S8x2048 ![] bcast_S_S8x2048 main_cst_3
  let main_v12 : IVec S8x2048 1 := cmpf .oeq main_v2 main_v11
  let main_v13 : IVec S8x2048 1 := ori main_v10 main_v12
  let main_c : IVec S_ 1 := constantI S_ 1 1#1
  let main_v14 : IVec S_ 1 := (fun x v => Host.reduce IntOp.andi x v reducesTo_S8x2048_S_d0_1 h_S_) main_v13 main_c
  main_v14
-- ==== Kernel.lean ====
abbrev S8x2048x3584 : Shape := ⟨3, ![8, 2048, 3584]⟩
abbrev S3584x18944 : Shape := ⟨2, ![3584, 18944]⟩
abbrev S18944 : Shape := ⟨1, ![18944]⟩
abbrev S256x256 : Shape := ⟨2, ![256, 256]⟩
abbrev S16384x3584 : Shape := ⟨2, ![16384, 3584]⟩
abbrev S16384x1 : Shape := ⟨2, ![16384, 1]⟩
abbrev S256x3584 : Shape := ⟨2, ![256, 3584]⟩
abbrev S256x1 : Shape := ⟨2, ![256, 1]⟩
abbrev S256 : Shape := ⟨1, ![256]⟩
abbrev S1x18944 : Shape := ⟨2, ![1, 18944]⟩
abbrev S16384x18944 : Shape := ⟨2, ![16384, 18944]⟩
abbrev S2048x3584 : Shape := ⟨2, ![2048, 3584]⟩
abbrev S3584x512 : Shape := ⟨2, ![3584, 512]⟩
abbrev S2048x1 : Shape := ⟨2, ![2048, 1]⟩
abbrev S1x512 : Shape := ⟨2, ![1, 512]⟩
abbrev S2048x512 : Shape := ⟨2, ![2048, 512]⟩
abbrev S8x2048x18944 : Shape := ⟨3, ![8, 2048, 18944]⟩
abbrev S8x2048x1 : Shape := ⟨3, ![8, 2048, 1]⟩

abbrev nBuf : Space → Nat
  | .hbm => 12
  | .vmem => 18
  | .smem => 0
  | _ => 0

abbrev bufTy : (tb : Table) → Fin (tcTables nBuf tb) → BufTy
  | .hbm, ⟨0, _⟩ => ⟨S8x2048x3584, .bf16⟩
  | .hbm, ⟨1, _⟩ => ⟨S3584x18944, .fp8e4m3⟩
  | .hbm, ⟨2, _⟩ => ⟨S18944, .f32⟩
  | .hbm, ⟨3, _⟩ => ⟨S256x256, .bf16⟩
  | .hbm, ⟨4, _⟩ => ⟨S16384x3584, .bf16⟩
  | .hbm, ⟨5, _⟩ => ⟨S16384x3584, .fp8e4m3⟩
  | .hbm, ⟨6, _⟩ => ⟨S16384x1, .f32⟩
  | .hbm, ⟨7, _⟩ => ⟨S1x18944, .f32⟩
  | .hbm, ⟨8, _⟩ => ⟨S16384x18944, .bf16⟩
  | .hbm, ⟨9, _⟩ => ⟨S8x2048x18944, .bf16⟩
  | .hbm, ⟨10, _⟩ => ⟨S8x2048x3584, .fp8e4m3⟩
  | .hbm, ⟨11, _⟩ => ⟨S8x2048x1, .f32⟩
  | .local _ .vmem, ⟨0, _⟩ => ⟨S256x3584, .bf16⟩
  | .local _ .vmem, ⟨1, _⟩ => ⟨S256x3584, .bf16⟩
  | .local _ .vmem, ⟨2, _⟩ => ⟨S256x256, .bf16⟩
  | .local _ .vmem, ⟨3, _⟩ => ⟨S256x3584, .fp8e4m3⟩
  | .local _ .vmem, ⟨4, _⟩ => ⟨S256x3584, .fp8e4m3⟩
  | .local _ .vmem, ⟨5, _⟩ => ⟨S256x1, .f32⟩
  | .local _ .vmem, ⟨6, _⟩ => ⟨S256x1, .f32⟩
  | .local _ .vmem, ⟨7, _⟩ => ⟨S256x3584, .f32⟩
  | .local _ .vmem, ⟨8, _⟩ => ⟨S2048x3584, .fp8e4m3⟩
  | .local _ .vmem, ⟨9, _⟩ => ⟨S2048x3584, .fp8e4m3⟩
  | .local _ .vmem, ⟨10, _⟩ => ⟨S3584x512, .fp8e4m3⟩
  | .local _ .vmem, ⟨11, _⟩ => ⟨S3584x512, .fp8e4m3⟩
  | .local _ .vmem, ⟨12, _⟩ => ⟨S2048x1, .f32⟩
  | .local _ .vmem, ⟨13, _⟩ => ⟨S2048x1, .f32⟩
  | .local _ .vmem, ⟨14, _⟩ => ⟨S1x512, .f32⟩
  | .local _ .vmem, ⟨15, _⟩ => ⟨S1x512, .f32⟩
  | .local _ .vmem, ⟨16, _⟩ => ⟨S2048x512, .bf16⟩
  | .local _ .vmem, ⟨17, _⟩ => ⟨S2048x512, .bf16⟩
  | _, _ => ⟨S8x2048x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x3584 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 37], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2048x3584 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S3584x512 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S2048x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== ReferenceIdeal.lean ====
abbrev S8x2048x3584 : Shape := ⟨3, ![8, 2048, 3584]⟩
abbrev S3584x18944 : Shape := ⟨2, ![3584, 18944]⟩
abbrev S18944 : Shape := ⟨1, ![18944]⟩
abbrev S2x2 : Shape := ⟨2, ![2, 2]⟩
abbrev S_ : Shape := ⟨0, ![]⟩
abbrev S1x1 : Shape := ⟨2, ![1, 1]⟩
abbrev S1x1x1x1 : Shape := ⟨4, ![1, 1, 1, 1]⟩
abbrev S1x2x1x2 : Shape := ⟨4, ![1, 2, 1, 2]⟩
abbrev S2x1x2x1 : Shape := ⟨4, ![2, 1, 2, 1]⟩
abbrev S2x2x2x2 : Shape := ⟨4, ![2, 2, 2, 2]⟩
abbrev S4x4 : Shape := ⟨2, ![4, 4]⟩
abbrev S4x1x4x1 : Shape := ⟨4, ![4, 1, 4, 1]⟩
abbrev S4x2x4x2 : Shape := ⟨4, ![4, 2, 4, 2]⟩
abbrev S8x8 : Shape := ⟨2, ![8, 8]⟩
abbrev S8x1x8x1 : Shape := ⟨4, ![8, 1, 8, 1]⟩
abbrev S8x2x8x2 : Shape := ⟨4, ![8, 2, 8, 2]⟩
abbrev S16x16 : Shape := ⟨2, ![16, 16]⟩
abbrev S16x1x16x1 : Shape := ⟨4, ![16, 1, 16, 1]⟩
abbrev S16x2x16x2 : Shape := ⟨4, ![16, 2, 16, 2]⟩
abbrev S32x32 : Shape := ⟨2, ![32, 32]⟩
abbrev S32x1x32x1 : Shape := ⟨4, ![32, 1, 32, 1]⟩
abbrev S32x2x32x2 : Shape := ⟨4, ![32, 2, 32, 2]⟩
abbrev S64x64 : Shape := ⟨2, ![64, 64]⟩
abbrev S64x1x64x1 : Shape := ⟨4, ![64, 1, 64, 1]⟩
abbrev S64x2x64x2 : Shape := ⟨4, ![64, 2, 64, 2]⟩
abbrev S128x128 : Shape := ⟨2, ![128, 128]⟩
abbrev S8x2048x28x128 : Shape := ⟨4, ![8, 2048, 28, 128]⟩
abbrev S8x2048 : Shape := ⟨2, ![8, 2048]⟩
abbrev S8x2048x1 : Shape := ⟨3, ![8, 2048, 1]⟩
abbrev S254 : Shape := ⟨1, ![254]⟩
abbrev S1x1x254 : Shape := ⟨3, ![1, 1, 254]⟩
abbrev S8x2048x254 : Shape := ⟨3, ![8, 2048, 254]⟩
abbrev S16384x3584 : Shape := ⟨2, ![16384, 3584]⟩
abbrev S16384x1 : Shape := ⟨2, ![16384, 1]⟩
abbrev S1x18944 : Shape := ⟨2, ![1, 18944]⟩
abbrev S16384x18944 : Shape := ⟨2, ![16384, 18944]⟩
abbrev S8x2048x18944 : Shape := ⟨3, ![8, 2048, 18944]⟩

abbrev nBuf : Space → Nat
  | .hbm => 123
  | .vmem => 6
  | .smem => 0
  | _ => 0

abbrev bufTy : (tb : Table) → Fin (tcTables nBuf tb) → BufTy
  | .hbm, ⟨0, _⟩ => ⟨S8x2048x3584, .bf16⟩
  | .hbm, ⟨1, _⟩ => ⟨S3584x18944, .fp8e4m3⟩
  | .hbm, ⟨2, _⟩ => ⟨S18944, .f32⟩
  | .hbm, ⟨3, _⟩ => ⟨S2x2, .f32⟩
  | .hbm, ⟨4, _⟩ => ⟨S8x2048x3584, .f32⟩
  | .hbm, ⟨5, _⟩ => ⟨S_, .f32⟩
  | .hbm, ⟨6, _⟩ => ⟨S1x1, .f32⟩
  | .hbm, ⟨7, _⟩ => ⟨S1x1x1x1, .f32⟩
  | .hbm, ⟨8, _⟩ => ⟨S1x2x1x2, .f32⟩
  | .hbm, ⟨9, _⟩ => ⟨S1x2x1x2, .f32⟩
  | .hbm, ⟨10, _⟩ => ⟨S1x2x1x2, .f32⟩
  | .hbm, ⟨11, _⟩ => ⟨S2x2, .f32⟩
  | .hbm, ⟨12, _⟩ => ⟨S2x1x2x1, .f32⟩
  | .hbm, ⟨13, _⟩ => ⟨S1x2x1x2, .f32⟩
  | .hbm, ⟨14, _⟩ => ⟨S2x2x2x2, .f32⟩
  | .hbm, ⟨15, _⟩ => ⟨S2x2x2x2, .f32⟩
  | .hbm, ⟨16, _⟩ => ⟨S2x2x2x2, .f32⟩
  | .hbm, ⟨17, _⟩ => ⟨S4x4, .f32⟩
  | .hbm, ⟨18, _⟩ => ⟨S4x1x4x1, .f32⟩
  | .hbm, ⟨19, _⟩ => ⟨S1x2x1x2, .f32⟩
  | .hbm, ⟨20, _⟩ => ⟨S4x2x4x2, .f32⟩
  | .hbm, ⟨21, _⟩ => ⟨S4x2x4x2, .f32⟩
  | .hbm, ⟨22, _⟩ => ⟨S4x2x4x2, .f32⟩
  | .hbm, ⟨23, _⟩ => ⟨S8x8, .f32⟩
  | .hbm, ⟨24, _⟩ => ⟨S8x1x8x1, .f32⟩
  | .hbm, ⟨25, _⟩ => ⟨S1x2x1x2, .f32⟩
  | .hbm, ⟨26, _⟩ => ⟨S8x2x8x2, .f32⟩
  | .hbm, ⟨27, _⟩ => ⟨S8x2x8x2, .f32⟩
  | .hbm, ⟨28, _⟩ => ⟨S8x2x8x2, .f32⟩
  | .hbm, ⟨29, _⟩ => ⟨S16x16, .f32⟩
  | .hbm, ⟨30, _⟩ => ⟨S16x1x16x1, .f32⟩
  | .hbm, ⟨31, _⟩ => ⟨S1x2x1x2, .f32⟩
  | .hbm, ⟨32, _⟩ => ⟨S16x2x16x2, .f32⟩
  | .hbm, ⟨33, _⟩ => ⟨S16x2x16x2, .f32⟩
  | .hbm, ⟨34, _⟩ => ⟨S16x2x16x2, .f32⟩
  | .hbm, ⟨35, _⟩ => ⟨S32x32, .f32⟩
  | .hbm, ⟨36, _⟩ => ⟨S32x1x32x1, .f32⟩
  | .hbm, ⟨37, _⟩ => ⟨S1x2x1x2, .f32⟩
  | .hbm, ⟨38, _⟩ => ⟨S32x2x32x2, .f32⟩
  | .hbm, ⟨39, _⟩ => ⟨S32x2x32x2, .f32⟩
  | .hbm, ⟨40, _⟩ => ⟨S32x2x32x2, .f32⟩
  | .hbm, ⟨41, _⟩ => ⟨S64x64, .f32⟩
  | .hbm, ⟨42, _⟩ => ⟨S64x1x64x1, .f32⟩
  | .hbm, ⟨43, _⟩ => ⟨S1x2x1x2, .f32⟩
  | .hbm, ⟨44, _⟩ => ⟨S64x2x64x2, .f32⟩
  | .hbm, ⟨45, _⟩ => ⟨S64x2x64x2, .f32⟩
  | .hbm, ⟨46, _⟩ => ⟨S64x2x64x2, .f32⟩
  | .hbm, ⟨47, _⟩ => ⟨S128x128, .f32⟩
  | .hbm, ⟨48, _⟩ => ⟨S_, .f32⟩
  | .hbm, ⟨49, _⟩ => ⟨S128x128, .f32⟩
  | .hbm, ⟨50, _⟩ => ⟨S128x128, .f32⟩
  | .hbm, ⟨51, _⟩ => ⟨S8x2048x28x128, .f32⟩
  | .hbm, ⟨52, _⟩ => ⟨S8x2048x28x128, .f32⟩
  | .hbm, ⟨53, _⟩ => ⟨S8x2048x3584, .f32⟩
  | .hbm, ⟨54, _⟩ => ⟨S8x2048x3584, .f32⟩
  | .hbm, ⟨55, _⟩ => ⟨S_, .f32⟩
  | .hbm, ⟨56, _⟩ => ⟨S8x2048, .f32⟩
  | .hbm, ⟨57, _⟩ => ⟨S8x2048x1, .f32⟩
  | .hbm, ⟨58, _⟩ => ⟨S_, .f32⟩
  | .hbm, ⟨59, _⟩ => ⟨S8x2048x1, .f32⟩
  | .hbm, ⟨60, _⟩ => ⟨S8x2048x1, .f32⟩
  | .hbm, ⟨61, _⟩ => ⟨S254, .i32⟩
  | .hbm, ⟨62, _⟩ => ⟨S_, .i32⟩
  | .hbm, ⟨63, _⟩ => ⟨S254, .i32⟩
  | .hbm, ⟨64, _⟩ => ⟨S254, .i32⟩
  | .hbm, ⟨65, _⟩ => ⟨S254, .f32⟩
  | .hbm, ⟨66, _⟩ => ⟨S_, .f32⟩
  | .hbm, ⟨67, _⟩ => ⟨S254, .f32⟩
  | .hbm, ⟨68, _⟩ => ⟨S254, .f32⟩
  | .hbm, ⟨69, _⟩ => ⟨S1x1x254, .f32⟩
  | .hbm, ⟨70, _⟩ => ⟨S8x2048x254, .f32⟩
  | .hbm, ⟨71, _⟩ => ⟨S8x2048x254, .f32⟩
  | .hbm, ⟨72, _⟩ => ⟨S8x2048x254, .i1⟩
  | .hbm, ⟨73, _⟩ => ⟨S_, .f32⟩
  | .hbm, ⟨74, _⟩ => ⟨S_, .f32⟩
  | .hbm, ⟨75, _⟩ => ⟨S8x2048x254, .f32⟩
  | .hbm, ⟨76, _⟩ => ⟨S8x2048x254, .f32⟩
  | .hbm, ⟨77, _⟩ => ⟨S8x2048x254, .f32⟩
  | .hbm, ⟨78, _⟩ => ⟨S_, .f32⟩
  | .hbm, ⟨79, _⟩ => ⟨S8x2048, .f32⟩
  | .hbm, ⟨80, _⟩ => ⟨S8x2048x1, .f32⟩
  | .hbm, ⟨81, _⟩ => ⟨S_, .f32⟩
  | .hbm, ⟨82, _⟩ => ⟨S8x2048x1, .f32⟩
  | .hbm, ⟨83, _⟩ => ⟨S8x2048x1, .i1⟩
  | .hbm, ⟨84, _⟩ => ⟨S_, .f32⟩
  | .hbm, ⟨85, _⟩ => ⟨S8x2048x1, .f32⟩
  | .hbm, ⟨86, _⟩ => ⟨S8x2048x1, .i1⟩
  | .hbm, ⟨87, _⟩ => ⟨S8x2048x1, .i1⟩
  | .hbm, ⟨88, _⟩ => ⟨S_, .i32⟩
  | .hbm, ⟨89, _⟩ => ⟨S_, .f32⟩
  | .hbm, ⟨90, _⟩ => ⟨S8x2048x1, .f32⟩
  | .hbm, ⟨91, _⟩ => ⟨S8x2048x1, .f32⟩
  | .hbm, ⟨92, _⟩ => ⟨S_, .f32⟩
  | .hbm, ⟨93, _⟩ => ⟨S8x2048x1, .f32⟩
  | .hbm, ⟨94, _⟩ => ⟨S8x2048x1, .i1⟩
  | .hbm, ⟨95, _⟩ => ⟨S_, .i32⟩
  | .hbm, ⟨96, _⟩ => ⟨S_, .f32⟩
  | .hbm, ⟨97, _⟩ => ⟨S8x2048x1, .f32⟩
  | .hbm, ⟨98, _⟩ => ⟨S8x2048x1, .f32⟩
  | .hbm, ⟨99, _⟩ => ⟨S_, .f32⟩
  | .hbm, ⟨100, _⟩ => ⟨S8x2048x1, .f32⟩
  | .hbm, ⟨101, _⟩ => ⟨S8x2048x1, .f32⟩
  | .hbm, ⟨102, _⟩ => ⟨S8x2048x1, .f32⟩
  | .hbm, ⟨103, _⟩ => ⟨S_, .f32⟩
  | .hbm, ⟨104, _⟩ => ⟨S8x2048x1, .f32⟩
  | .hbm, ⟨105, _⟩ => ⟨S8x2048x1, .f32⟩
  | .hbm, ⟨106, _⟩ => ⟨S8x2048x3584, .f32⟩
  | .hbm, ⟨107, _⟩ => ⟨S8x2048x3584, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S8x2048x3584, .f32⟩
  | .hbm, ⟨112, _⟩ => ⟨S8x2048x3584, .f32⟩
  | .hbm, ⟨113, _⟩ => ⟨S_, .f32⟩
  | .hbm, ⟨114, _⟩ => ⟨S8x2048x3584, .f32⟩
  | .hbm, ⟨115, _⟩ => ⟨S8x2048x3584, .f32⟩
  | .hbm, ⟨116, _⟩ => ⟨S16384x3584, .f32⟩
  | .hbm, ⟨117, _⟩ => ⟨S16384x1, .f32⟩
  | .hbm, ⟨118, _⟩ => ⟨S1x18944, .f32⟩
  | .hbm, ⟨119, _⟩ => ⟨S16384x18944, .bf16⟩
  | .hbm, ⟨120, _⟩ => ⟨S16384x3584, .fp8e4m3⟩
  | .hbm, ⟨121, _⟩ => ⟨S8x2048x18944, .bf16⟩
  | .hbm, ⟨122, _⟩ => ⟨S8x2048x3584, .fp8e4m3⟩
  | .local _ .vmem, ⟨0, _⟩ => ⟨S16384x3584, .f32⟩
  | .local _ .vmem, ⟨1, _⟩ => ⟨S3584x18944, .fp8e4m3⟩
  | .local _ .vmem, ⟨2, _⟩ => ⟨S16384x1, .f32⟩
  | .local _ .vmem, ⟨3, _⟩ => ⟨S1x18944, .f32⟩
  | .local _ .vmem, ⟨4, _⟩ => ⟨S16384x18944, .bf16⟩
  | .local _ .vmem, ⟨5, _⟩ => ⟨S16384x3584, .fp8e4m3⟩
  | _, _ => ⟨S8x2048x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_v2 : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_v3 : Ref sig .tc := ⟨.hbm, 17, rfl⟩
abbrev main_call2_v0 : Ref sig .tc := ⟨.hbm, 18, rfl⟩
abbrev main_call2_v1 : Ref sig .tc := ⟨.hbm, 19, rfl⟩
abbrev main_call2_v2 : Ref sig .tc := ⟨.hbm, 20, rfl⟩
abbrev main_call2_v3 : Ref sig .tc := ⟨.hbm, 21, rfl⟩
abbrev main_call2_v4 : Ref sig .tc := ⟨.hbm, 22, rfl⟩
abbrev main_v4 : Ref sig .tc := ⟨.hbm, 23, rfl⟩
abbrev main_call3_v0 : Ref sig .tc := ⟨.hbm, 24, rfl⟩
abbrev main_call3_v1 : Ref sig .tc := ⟨.hbm, 25, rfl⟩
abbrev main_call3_v2 : Ref sig .tc := ⟨.hbm, 26, rfl⟩
abbrev main_call3_v3 : Ref sig .tc := ⟨.hbm, 27, rfl⟩
abbrev main_call3_v4 : Ref sig .tc := ⟨.hbm, 28, rfl⟩
abbrev main_v5 : Ref sig .tc := ⟨.hbm, 29, rfl⟩
abbrev main_call4_v0 : Ref sig .tc := ⟨.hbm, 30, rfl⟩
abbrev main_call4_v1 : Ref sig .tc := ⟨.hbm, 31, rfl⟩
abbrev main_call4_v2 : Ref sig .tc := ⟨.hbm, 32, rfl⟩
abbrev main_call4_v3 : Ref sig .tc := ⟨.hbm, 33, rfl⟩
abbrev main_call4_v4 : Ref sig .tc := ⟨.hbm, 34, rfl⟩
abbrev main_v6 : Ref sig .tc := ⟨.hbm, 35, rfl⟩
abbrev main_call5_v0 : Ref sig .tc := ⟨.hbm, 36, rfl⟩
abbrev main_call5_v1 : Ref sig .tc := ⟨.hbm, 37, rfl⟩
abbrev main_call5_v2 : Ref sig .tc := ⟨.hbm, 38, rfl⟩
abbrev main_call5_v3 : Ref sig .tc := ⟨.hbm, 39, rfl⟩
abbrev main_call5_v4 : Ref sig .tc := ⟨.hbm, 40, rfl⟩
abbrev main_v7 : Ref sig .tc := ⟨.hbm, 41, rfl⟩
abbrev main_call6_v0 : Ref sig .tc := ⟨.hbm, 42, rfl⟩
abbrev main_call6_v1 : Ref sig .tc := ⟨.hbm, 43, rfl⟩
abbrev main_call6_v2 : Ref sig .tc := ⟨.hbm, 44, rfl⟩
abbrev main_call6_v3 : Ref sig .tc := ⟨.hbm, 45, rfl⟩
abbrev main_call6_v4 : Ref sig .tc := ⟨.hbm, 46, rfl⟩
abbrev main_v8 : Ref sig .tc := ⟨.hbm, 47, rfl⟩
abbrev main_cst_1 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_2 : Ref sig .tc := ⟨.hbm, 55, rfl⟩
abbrev main_v15 : Ref sig .tc := ⟨.hbm, 56, rfl⟩
abbrev main_v16 : Ref sig .tc := ⟨.hbm, 57, rfl⟩
abbrev main_cst_3 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_c : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_cst_4 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_cst_5 : Ref sig .tc := ⟨.hbm, 73, rfl⟩
abbrev main_call7_v0 : Ref sig .tc := ⟨.hbm, 74, rfl⟩
abbrev main_call7_v1 : Ref sig .tc := ⟨.hbm, 75, rfl⟩
abbrev main_call7_v2 : Ref sig .tc := ⟨.hbm, 76, rfl⟩
abbrev main_v29 : Ref sig .tc := ⟨.hbm, 77, rfl⟩
abbrev main_cst_6 : Ref sig .tc := ⟨.hbm, 78, rfl⟩
abbrev main_v30 : Ref sig .tc := ⟨.hbm, 79, rfl⟩
abbrev main_v31 : Ref sig .tc := ⟨.hbm, 80, rfl⟩
abbrev main_cst_7 : Ref sig .tc := ⟨.hbm, 81, rfl⟩
abbrev main_v32 : Ref sig .tc := ⟨.hbm, 82, rfl⟩
abbrev main_v33 : Ref sig .tc := ⟨.hbm, 83, rfl⟩
abbrev main_cst_8 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_c_9 : Ref sig .tc := ⟨.hbm, 88, rfl⟩
abbrev main_call8_v0 : Ref sig .tc := ⟨.hbm, 89, rfl⟩
abbrev main_call8_v1 : Ref sig .tc := ⟨.hbm, 90, rfl⟩
abbrev main_v37 : Ref sig .tc := ⟨.hbm, 91, rfl⟩
abbrev main_cst_10 : Ref sig .tc := ⟨.hbm, 92, rfl⟩
abbrev main_v38 : Ref sig .tc := ⟨.hbm, 93, rfl⟩
abbrev main_v39 : Ref sig .tc := ⟨.hbm, 94, rfl⟩
abbrev main_c_11 : Ref sig .tc := ⟨.hbm, 95, rfl⟩
abbrev main_call9_v0 : Ref sig .tc := ⟨.hbm, 96, rfl⟩
abbrev main_call9_v1 : Ref sig .tc := ⟨.hbm, 97, rfl⟩
abbrev main_v40 : Ref sig .tc := ⟨.hbm, 98, rfl⟩
abbrev main_cst_12 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_cst_13 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_cst_14 : Ref sig .tc := ⟨.hbm, 108, rfl⟩
abbrev main_cst_15 : Ref sig .tc := ⟨.hbm, 109, rfl⟩
abbrev main_call10_v0 : Ref sig .tc := ⟨.hbm, 110, rfl⟩
abbrev main_call10_v1 : Ref sig .tc := ⟨.hbm, 111, rfl⟩
abbrev main_call10_v2 : Ref sig .tc := ⟨.hbm, 112, rfl⟩
abbrev main_call10_v3 : Ref sig .tc := ⟨.hbm, 113, rfl⟩
abbrev main_call10_v4 : Ref sig .tc := ⟨.hbm, 114, rfl⟩
abbrev main_v48 : Ref sig .tc := ⟨.hbm, 115, rfl⟩
abbrev main_v49 : Ref sig .tc := ⟨.hbm, 116, rfl⟩
abbrev main_v50 : Ref sig .tc := ⟨.hbm, 117, rfl⟩
abbrev main_v51 : Ref sig .tc := ⟨.hbm, 118, rfl⟩
abbrev main_v52_0 : Ref sig .tc := ⟨.hbm, 119, rfl⟩
abbrev main_v52_1 : Ref sig .tc := ⟨.hbm, 120, rfl⟩
abbrev main_v53 : Ref sig .tc := ⟨.hbm, 121, rfl⟩
abbrev main_v54 : Ref sig .tc := ⟨.hbm, 122, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S16384x3584 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584x18944 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x18944 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x18944 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x3584 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.RotateBlock.lean ====
module
public import proofs.«01_k».proof.Proof.Gen.KernelIdeal.Frame
public import Idealize.ShloMosaic.Lib.Pointwise
public import Idealize.ShloMosaic.Lib.Pipeline.ReadBack
public import Idealize.ShloMosaic.Lib.Pipeline.ValueKit

/-! What one block of the rotation kernel computes, element by element: 256 rows of x against the 256 by 256 table of
    signs give 256 rows of codes and 256 scales. -/

@[expose] public section
set_option maxRecDepth 16384
noncomputable section
namespace Cert.KernelIdeal.Val
open Idealize.ShloMosaic Idealize.ShloMosaic.TcCoe Idealize.ShloMosaic.Tactic Cert.KernelIdeal.Gen

/-- The exponent word of a row: from `p`, the row's largest entry over 448, the `e` with `2^(e-1) ≤ p < 2^e` (0 where
    `p` is 0), as the kernel finds it. -/
def expWord (p : EReal) : BitVec 32 :=
  Scalar.select (IntOp.andi (BitVec.ofBool (decide (0 < p))) (BitVec.ofBool (decide (p < Ideal.ofBits .f32 0x7F800000#32))))
    (IntOp.subi (Finset.fold IntOp.maxsi 2147483648#32 (fun x : Fin 256 =>
      if Ideal.ofBits .f32 (IntOp.shli ArithUnit.vector (BitVec.ofNat 32 x) 23#32) ≤ p then BitVec.ofNat 32 x else 0#32)
      Finset.univ) 126#32) 0#32

/-- The row's scale, from its exponent word. -/
def scaleOf (p : EReal) : EReal := Ideal.ofBits .f32 (IntOp.shli ArithUnit.vector (IntOp.addi (expWord p) 127#32) 23#32)
/-- The scale's reciprocal, from the exponent word. -/
def invOf (p : EReal) : EReal := Ideal.ofBits .f32 (IntOp.shli ArithUnit.vector (IntOp.subi 127#32 (expWord p)) 23#32)
/-- The code of a rotated entry `v`, given its row's `p`. -/
def codeOf (p v : EReal) : EReal := min (Ideal.ofBits .f32 0x43E00000#32) (max (Ideal.ofBits .f32 0xC3E00000#32) (v * invOf p))
/-- A row's `p`: its largest absolute entry over 448. -/
def pOf (f : Fin 3584 → EReal) : EReal :=
  Finset.univ.fold max ⊥ (fun j => FloatOps.absf (F := Ideal) (φ := .f32) (f j)) * Ideal.ofBits .f32 0x3B124925#32

/-- Entry `(r, j)` of the rotated block. -/
def rotv (x0 : Vec Ideal S256x3584 .bf16) (x1 : Vec Ideal S256x256 .bf16) (r : Fin 256) (j : Fin 3584) : EReal :=
  (∑ k : Fin 256, x0 (ix2 r ⟨256 * (j.val / 256) + k.val, by omega⟩) * x1 (ix2 k ⟨j.val % 256, by omega⟩))
    * Ideal.ofBits .f32 0x3DB504F3#32

theorem pay2_at (a b : Vec Ideal S256x256 .bf16) (r l : Fin 256) :
    k0_pay2 a b (ix2 r l) = (∑ k : Fin 256, a (ix2 r k) * b (ix2 k l)) * Ideal.ofBits .f32 0x3DB504F3#32 := by
  pointwise [k0_pay2]

/-- A slab of 256 columns of the block, rotated, holds the rotated block's entries there. -/
theorem pay2_ld (x0 : Vec Ideal S256x3584 .bf16) (x1 : Vec Ideal S256x256 .bf16) (n : ℕ) (hn : n < 14)
    (inb : ∀ a, (![0, 256 * n] : Fin 2 → ℕ) a + S256x256.size a ≤ S256x3584.size a) (r l : Fin 256) :
    k0_pay2 (View.ld (Val := Elt Ideal) x0 (Rect.unit (s := S256x3584) ![0, 256 * n] S256x256.size inb)) x1 (ix2 r l)
      = rotv x0 x1 r ⟨256 * n + l.val, by omega⟩ := by
  rw [pay2_at]
  unfold rotv
  have e1 : (256 * n + l.val) / 256 = n := by omega
  have e2 : (256 * n + l.val) % 256 = l.val := by omega
  congr 1
  refine Finset.sum_congr rfl fun k _ => ?_
  congr 2
  · show x0 ((Rect.unit (s := S256x3584) ![0, 256 * n] S256x256.size inb).emb (ix2 r k)) = _
    refine congrArg x0 ((eq_ix2 (n0 := 256) (n1 := 3584) _).trans ?_)
    refine congrArg₂ ix2 (Fin.ext ?_) (Fin.ext ?_)
    · show 0 + 1 * r.val = r.val; omega
    · show 256 * n + 1 * k.val = 256 * ((256 * n + l.val) / 256) + k.val; rw [e1]; omega
  · exact congrArg (ix2 k) (Fin.ext e2.symm)

/-- The rotated block. -/
def rotA (x0 : Vec Ideal S256x3584 .bf16) (x1 : Vec Ideal S256x256 .bf16) : Vec Ideal S256x3584 .f32 :=
  fun i => rotv x0 x1 (i 0) (i 1)

theorem piece_rot (x0 : Vec Ideal S256x3584 .bf16) (x1 : Vec Ideal S256x256 .bf16) (n : ℕ) (hn : n < 14)
    (inb : ∀ a, (![0, 256 * n] : Fin 2 → ℕ) a + S256x256.size a ≤ S256x3584.size a) (x : S256x256.Idx) :
    k0_pay2 (View.ld (Val := Elt Ideal) x0 (Rect.unit (s := S256x3584) ![0, 256 * n] S256x256.size inb)) x1 x
      = rotA x0 x1 ((Rect.unit (s := S256x3584) ![0, 256 * n] S256x256.size inb).emb x) := by
  obtain ⟨r, l, rfl⟩ : ∃ r l, x = ix2 (n0 := 256) (n1 := 256) r l := ⟨x 0, x 1, eq_ix2 x⟩
  rw [pay2_ld x0 x1 n hn]
  unfold rotA
  refine congrArg₂ (rotv x0 x1) (Fin.ext ?_) (Fin.ext ?_)
  · show r.val = 0 + 1 * r.val; omega
  · show 256 * n + l.val = 256 * n + 1 * l.val; omega

/-- The largest of 256 consecutive entries, the `k`-th such run. -/
def blkMax (f : Fin 3584 → EReal) (k : ℕ) (hk : k < 14) : EReal :=
  Finset.univ.fold max ⊥ (fun x : Fin 256 => f ⟨256 * k + x.val, by omega⟩)

theorem le_blkMax (f : Fin 3584 → EReal) (j : Fin 3584) (k : ℕ) (hk : k < 14) (h : j.val / 256 = k) : f j ≤ blkMax f k hk := by
  unfold blkMax
  refine (Finset.le_fold_max _).2 (Or.inr ⟨⟨j.val % 256, by omega⟩, Finset.mem_univ _, le_of_eq (congrArg f (Fin.ext ?_))⟩)
  show j.val = 256 * k + j.val % 256
  omega

/-- The largest entry, taken run by run from 0, of entries that are not negative. -/
theorem chain_max (f : Fin 3584 → EReal) (hf : ∀ j, 0 ≤ f j) :
    max (max (max (max (max (max (max (max (max (max (max (max (max (max 0 (blkMax f 0 (by decide))) (blkMax f 1 (by decide))) (blkMax f 2 (by decide))) (blkMax f 3 (by decide))) (blkMax f 4 (by decide))) (blkMax f 5 (by decide))) (blkMax f 6 (by decide))) (blkMax f 7 (by decide))) (blkMax f 8 (by decide))) (blkMax f 9 (by decide))) (blkMax f 10 (by decide))) (blkMax f 11 (by decide))) (blkMax f 12 (by decide))) (blkMax f 13 (by decide)) = Finset.univ.fold max ⊥ f := by
  refine le_antisymm ?_ ?_
  · have hb : ∀ k (hk : k < 14), blkMax f k hk ≤ Finset.univ.fold max ⊥ f := fun k hk =>
      (Finset.fold_max_le _).2 ⟨bot_le, fun x _ => (Finset.le_fold_max _).2 (Or.inr ⟨_, Finset.mem_univ _, le_rfl⟩)⟩
    have h0 : (0 : EReal) ≤ Finset.univ.fold max ⊥ f :=
      (Finset.le_fold_max _).2 (Or.inr ⟨0, Finset.mem_univ _, hf 0⟩)
    simp only [max_le_iff, h0, hb, true_and, and_self]
  · refine (Finset.fold_max_le _).2 ⟨bot_le, fun j _ => ?_⟩
    have hj : j.val / 256 < 14 := by omega
    refine (le_blkMax f j _ hj rfl).trans ?_
    generalize j.val / 256 = k at hj
    interval_cases k <;> simp only [le_max_iff, le_refl, true_or, or_true]

theorem ofBits_neg_inf : Ideal.ofBits .f32 0xFF800000#32 = ⊥ := by simp [Ideal.ofBits, Ideal.ieee]

theorem absf_nonneg (x : EReal) : 0 ≤ FloatOps.absf (F := Ideal) (φ := .f32) x := by
  show 0 ≤ max x (-x)
  rcases le_total 0 x with h | h
  · exact le_max_of_le_left h
  · exact le_max_of_le_right (by simpa using EReal.neg_le_neg_iff.2 h)

/-- The largest absolute entry of a rotated slab's row. -/
theorem slab_max (x0 : Vec Ideal S256x3584 .bf16) (x1 : Vec Ideal S256x256 .bf16) (n : ℕ) (hn : n < 14)
    (inb : ∀ a, (![0, 256 * n] : Fin 2 → ℕ) a + S256x256.size a ≤ S256x3584.size a) (r : Fin 256) :
    Finset.fold max (Ideal.ofBits .f32 0xFF800000#32) (fun x : Fin 256 => FloatOps.absf (F := Ideal) (φ := .f32)
      (k0_pay2 (View.ld (Val := Elt Ideal) x0 (Rect.unit (s := S256x3584) ![0, 256 * n] S256x256.size inb)) x1 (ix2 r x))) Finset.univ
      = blkMax (fun j => FloatOps.absf (F := Ideal) (φ := .f32) (rotv x0 x1 r j)) n hn := by
  rw [ofBits_neg_inf]
  unfold blkMax
  exact Finset.fold_congr fun x _ => congrArg _ (pay2_ld x0 x1 n hn inb r x)

theorem ld_whole (x1 : Vec Ideal S256x256 .bf16) (inb) :
    View.ld (Val := Elt Ideal) x1 (Rect.unit (s := S256x256) ![0, 0] S256x256.size inb) = x1 :=
  View.ld_unit_zero (by funext a; fin_cases a <;> rfl) inb x1

/-- `slab_max` at a literal offset. -/
theorem slab_max' (x0 : Vec Ideal S256x3584 .bf16) (x1 : Vec Ideal S256x256 .bf16) (n o : ℕ) (hn : n < 14) (ho : o = 256 * n)
    (inb : ∀ a, (![0, o] : Fin 2 → ℕ) a + (![256, 256] : Fin 2 → ℕ) a ≤ S256x3584.size a) (r : Fin 256) :
    Finset.fold max (Ideal.ofBits .f32 0xFF800000#32) (fun x : Fin 256 => FloatOps.absf (F := Ideal) (φ := .f32)
      (k0_pay2 (View.ld (Val := Elt Ideal) x0 (Rect.unit (s := S256x3584) ![0, o] ![256, 256] inb)) x1 (ix2 r x))) Finset.univ
      = blkMax (fun j => FloatOps.absf (F := Ideal) (φ := .f32) (rotv x0 x1 r j)) n hn := by
  subst ho; exact slab_max x0 x1 n hn inb r

theorem ld_whole' (x1 : Vec Ideal S256x256 .bf16) (inb) :
    View.ld (Val := Elt Ideal) x1 (Rect.unit (s := S256x256) ![0, 0] ![256, 256] inb) = x1 := ld_whole x1 inb

/-! The rotations of the slabs are printed one by one; each is the first's. -/
theorem pay4_eq (a b : Vec Ideal S256x256 .bf16) : k0_pay4 a b = k0_pay2 a b := rfl
theorem pay11_eq (a b : Vec Ideal S256x256 .bf16) : k0_pay11 a b = k0_pay2 a b := rfl
theorem pay13_eq (a b : Vec Ideal S256x256 .bf16) : k0_pay13 a b = k0_pay2 a b := rfl
theorem pay16_eq (a b : Vec Ideal S256x256 .bf16) : k0_pay16 a b = k0_pay2 a b := rfl
theorem pay18_eq (a b : Vec Ideal S256x256 .bf16) : k0_pay18 a b = k0_pay2 a b := rfl
theorem pay21_eq (a b : Vec Ideal S256x256 .bf16) : k0_pay21 a b = k0_pay2 a b := rfl
theorem pay23_eq (a b : Vec Ideal S256x256 .bf16) : k0_pay23 a b = k0_pay2 a b := rfl
theorem pay25_eq (a b : Vec Ideal S256x256 .bf16) : k0_pay25 a b = k0_pay2 a b := rfl
theorem pay31_eq (a b : Vec Ideal S256x256 .bf16) : k0_pay31 a b = k0_pay2 a b := rfl
theorem pay34_eq (a b : Vec Ideal S256x256 .bf16) : k0_pay34 a b = k0_pay2 a b := rfl
theorem pay37_eq (a b : Vec Ideal S256x256 .bf16) : k0_pay37 a b = k0_pay2 a b := rfl
theorem pay9_eq (a b : Vec Ideal S256x256 .bf16) : k0_pay9 (k0_pay7 a b) k0_pay8 = k0_pay2 a b := rfl
theorem pay29_eq (a b : Vec Ideal S256x256 .bf16) : k0_pay29 (k0_pay28 a) b = k0_pay2 a b := by
  have e : k0_pay28 a = shapeCast S256x256 a shapeCasts_S256x256_S256x256 := rfl
  rfl

section
variable (c : Dev nD) (arg1 : Memref sig .tc .vmem S256x3584 .bf16) (harg1 : arg1.IsWhole) (arg2 : Memref sig .tc .vmem S256x256 .bf16) (harg2 : arg2.IsWhole)
  (arg5 : Memref sig .tc .vmem S256x3584 .f32) (x0 : Vec Ideal S256x3584 .bf16) (x1 : Vec Ideal S256x256 .bf16)

set_option maxHeartbeats 1000000 in
/-- The exponent word the body computes for row `r`. -/
theorem r10_eq (r : Fin 256) :
    kernelRun0_A.sl.r_10 (F := Ideal) c arg1 harg1 arg2 harg2 x0 x1 (ix2 r 0) = expWord (pOf (rotv x0 x1 r)) := by
  frame_open
  simp only [View.readAt_eq_ld, Memref.IsWhole.read_unread]
  pointwise [k0_pay39, k0_pay36, k0_pay33, k0_pay27, k0_pay20, k0_pay15, k0_pay6]
  simp only [ld_whole', pay4_eq, pay11_eq, pay13_eq, pay16_eq, pay18_eq, pay21_eq, pay23_eq, pay25_eq, pay31_eq, pay34_eq, pay37_eq, pay9_eq, pay29_eq]
  rw [slab_max' x0 x1 0 0 (by decide) rfl, slab_max' x0 x1 1 256 (by decide) rfl, slab_max' x0 x1 2 512 (by decide) rfl, slab_max' x0 x1 3 768 (by decide) rfl, slab_max' x0 x1 4 1024 (by decide) rfl, slab_max' x0 x1 5 1280 (by decide) rfl, slab_max' x0 x1 6 1536 (by decide) rfl, slab_max' x0 x1 7 1792 (by decide) rfl, slab_max' x0 x1 8 2048 (by decide) rfl, slab_max' x0 x1 9 2304 (by decide) rfl, slab_max' x0 x1 10 2560 (by decide) rfl, slab_max' x0 x1 11 2816 (by decide) rfl, slab_max' x0 x1 12 3072 (by decide) rfl, slab_max' x0 x1 13 3328 (by decide) rfl]
  rw [chain_max _ fun j => absf_nonneg _]
  rfl
end

/-- A slab's entries, rotated, at a literal offset. -/
theorem piece_rot' (x0 : Vec Ideal S256x3584 .bf16) (x1 : Vec Ideal S256x256 .bf16) (n o : ℕ) (hn : n < 14) (ho : o = 256 * n)
    (inb : ∀ a, (![0, o] : Fin 2 → ℕ) a + (![256, 256] : Fin 2 → ℕ) a ≤ S256x3584.size a) (x : S256x256.Idx) :
    k0_pay2 (View.ld (Val := Elt Ideal) x0 (Rect.unit (s := S256x3584) ![0, o] ![256, 256] inb)) x1 x
      = rotA x0 x1 ((Rect.unit (s := S256x3584) ![0, o] ![256, 256] inb).emb x) := by
  subst ho; exact piece_rot x0 x1 n hn inb x

theorem pay3_eq (a b : Vec Ideal S256x256 .bf16) (x : S256x256.Idx) : k0_pay3 a b x = k0_pay2 a b x := by
  obtain ⟨r, l, rfl⟩ : ∃ r l, x = ix2 (n0 := 256) (n1 := 256) r l := ⟨x 0, x 1, eq_ix2 x⟩
  pointwise [k0_pay3]

section
variable (c : Dev nD) (i : grid0.Coords) (arg1 : Memref sig .tc .vmem S256x3584 .bf16) (harg1 : arg1.IsWhole) (arg2 : Memref sig .tc .vmem S256x256 .bf16) (harg2 : arg2.IsWhole) (arg3 : Memref sig .tc .vmem S256x3584 .fp8e4m3) (harg3 : arg3.IsWhole) (arg4 : Memref sig .tc .vmem S256x1 .f32) (harg4 : arg4.IsWhole) (arg5 : Memref sig .tc .vmem S256x3584 .f32) (harg5 : arg5.IsWhole)
    (x0 : Vec Ideal S256x3584 .bf16) (x1 : Vec Ideal S256x256 .bf16)

/-- Every piece stored to the scratch is the rotated block's. -/
theorem pieces_rot : View.PiecesOf (rotA x0 x1) (kernelRun0_A.sl.HS0_14 (F := Ideal) c arg1 harg1 arg2 harg2 x0 x1) := by
  frame_open
  simp only [View.readAt_eq_ld, Memref.IsWhole.read_unread, ld_whole']
  exact ⟨fun x => (pay3_eq _ _ x).trans (piece_rot' x0 x1 13 3328 (by decide) rfl _ x), fun x => (pay3_eq _ _ x).trans (piece_rot' x0 x1 12 3072 (by decide) rfl _ x), fun x => (pay3_eq _ _ x).trans (piece_rot' x0 x1 11 2816 (by decide) rfl _ x), fun x => (pay3_eq _ _ x).trans (piece_rot' x0 x1 10 2560 (by decide) rfl _ x), fun x => (pay3_eq _ _ x).trans (piece_rot' x0 x1 9 2304 (by decide) rfl _ x), fun x => (pay3_eq _ _ x).trans (piece_rot' x0 x1 8 2048 (by decide) rfl _ x), fun x => (pay3_eq _ _ x).trans (piece_rot' x0 x1 7 1792 (by decide) rfl _ x), fun x => (pay3_eq _ _ x).trans (piece_rot' x0 x1 6 1536 (by decide) rfl _ x), fun x => (pay3_eq _ _ x).trans (piece_rot' x0 x1 5 1280 (by decide) rfl _ x), fun x => (pay3_eq _ _ x).trans (piece_rot' x0 x1 4 1024 (by decide) rfl _ x), fun x => (pay3_eq _ _ x).trans (piece_rot' x0 x1 3 768 (by decide) rfl _ x), fun x => (pay3_eq _ _ x).trans (piece_rot' x0 x1 2 512 (by decide) rfl _ x), fun x => (pay3_eq _ _ x).trans (piece_rot' x0 x1 1 256 (by decide) rfl _ x), fun x => (pay3_eq _ _ x).trans (piece_rot' x0 x1 0 0 (by decide) rfl _ x), trivial⟩

/-- So what the body reads back of it is the rotated block's. -/
theorem readCov_rot (r : Rect S256x3584) (x : r.shape.Idx) :
    arg5.view.readCov (kernelRun0_A.sl.HS0_14 (F := Ideal) c arg1 harg1 arg2 harg2 x0 x1) r.toLoadRect x = rotA x0 x1 (r.emb x) := by
  rw [View.readCov_eq_canon']
  exact View.canon_apply_of_pieces _ _ (pieces_rot c arg1 harg1 arg2 harg2 x0 x1).mem _
    (View.cover_of_tiledL (kernelRun0_A.sl.HS0_14 (F := Ideal) c arg1 harg1 arg2 harg2 x0 x1) S256x256.size (by sl_kernel_rfl) _)

theorem r12_eq (r : Fin 256) :
    kernelRun0_A.sl.r_12 (F := Ideal) c arg1 harg1 arg2 harg2 x0 x1 (ix2 r 0) = invOf (pOf (rotv x0 x1 r)) := by
  have h := r10_eq c arg1 harg1 arg2 harg2 x0 x1 r
  unfold kernelRun0_A.sl.r_12
  generalize kernelRun0_A.sl.r_10 (F := Ideal) c arg1 harg1 arg2 harg2 x0 x1 = e at h
  pointwise [k0_pay42]
  rw [h]; rfl

/-- The scales the body leaves. -/
theorem out3_eq : out0_A_3 c i arg1 harg1 arg2 harg2 arg3 harg3 arg4 harg4 arg5 harg5 x0 x1
    = fun x => scaleOf (pOf (rotv x0 x1 (x 0))) := by
  unfold out0_A_3 kernelRun0_A
  dsimp only
  rw [View.read_writes_junk_eq_canon]
  refine (View.canon_unit_zero (S := S256x1) (by funext a; fin_cases a <;> rfl) inb_S256x1_S256x1_0_0 _).trans ?_
  funext x
  obtain ⟨r, rfl⟩ : ∃ r, x = ix2 (n0 := 256) (n1 := 1) r 0 := ⟨x 0, (eq_ix2 x).trans (congrArg (ix2 (x 0)) (Subsingleton.elim _ _))⟩
  have h := r10_eq c arg1 harg1 arg2 harg2 x0 x1 r
  unfold kernelRun0_A.sl.r_10 at h
  unfold kernelRun0_A.sl.r_11 k0_pay41 k0_pay40
  generalize k0_pay39 (F := Ideal) _ _ _ _ = e at h ⊢
  pointwise
  rw [h]; rfl
end

section
variable (e : IVec S256x1 32) (q : Vec Ideal S256x1 .f32) (v : Vec Ideal S256x256 .f32) (p : EReal) (r l : Fin 256)
/-! A slab's codes, the slabs printed one by one. -/
theorem pay43_at (h : e (ix2 r 0) = expWord p) : k0_pay43 e v (ix2 r l) = codeOf p (v (ix2 r l)) := by
  pointwise [k0_pay43, k0_pay42, h]; rfl
theorem pay44_at (h : e (ix2 r 0) = expWord p) : k0_pay44 e v (ix2 r l) = codeOf p (v (ix2 r l)) := by
  pointwise [k0_pay44, k0_pay42, h]; rfl
theorem pay45_at (h : e (ix2 r 0) = expWord p) : k0_pay45 e v (ix2 r l) = codeOf p (v (ix2 r l)) := by
  pointwise [k0_pay45, k0_pay42, h]; rfl
theorem pay46_at (h : q (ix2 r 0) = invOf p) : k0_pay46 q v (ix2 r l) = codeOf p (v (ix2 r l)) := by
  pointwise [k0_pay46, h]; rfl
theorem pay47_at (h : q (ix2 r 0) = invOf p) : k0_pay47 q v (ix2 r l) = codeOf p (v (ix2 r l)) := by
  pointwise [k0_pay47, h]; rfl
theorem pay48_at (h : q (ix2 r 0) = invOf p) : k0_pay48 q v (ix2 r l) = codeOf p (v (ix2 r l)) := by
  pointwise [k0_pay48, h]; rfl
theorem pay49_at (h : q (ix2 r 0) = invOf p) : k0_pay49 q v (ix2 r l) = codeOf p (v (ix2 r l)) := by
  pointwise [k0_pay49, h]; rfl
theorem pay50_at (h : q (ix2 r 0) = invOf p) : k0_pay50 q v (ix2 r l) = codeOf p (v (ix2 r l)) := by
  pointwise [k0_pay50, h]; rfl
theorem pay51_at (h : q (ix2 r 0) = invOf p) : k0_pay51 q v (ix2 r l) = codeOf p (v (ix2 r l)) := by
  pointwise [k0_pay51, h]; rfl
theorem pay52_at (h : q (ix2 r 0) = invOf p) : k0_pay52 q v (ix2 r l) = codeOf p (v (ix2 r l)) := by
  pointwise [k0_pay52, h]; rfl
theorem pay56_at (h : q (ix2 r 0) = invOf p) : k0_pay56 q v (ix2 r l) = codeOf p (v (ix2 r l)) := by
  pointwise [k0_pay56, h]; rfl
theorem pay57_at (h : q (ix2 r 0) = invOf p) : k0_pay57 q v (ix2 r l) = codeOf p (v (ix2 r l)) := by
  pointwise [k0_pay57, h]; rfl
theorem pay55_at (h : q (ix2 r 0) = invOf p) : k0_pay55 (k0_pay53 q v) (Scalar.ofBits .f32 0x43E00000#32) k0_pay54 (ix2 r l) = codeOf p (v (ix2 r l)) := by
  pointwise [k0_pay55, k0_pay54, k0_pay53, h]; rfl
theorem pay58_at (h : q (ix2 r 0) = invOf p) : k0_pay1 (k0_pay58 q v) (ix2 r l) = codeOf p (v (ix2 r l)) := by
  pointwise [k0_pay1, k0_pay58, h]; rfl
end

/-- The block of codes. -/
def codeA (x0 : Vec Ideal S256x3584 .bf16) (x1 : Vec Ideal S256x256 .bf16) : Vec Ideal S256x3584 .fp8e4m3 :=
  fun i => codeOf (pOf (rotv x0 x1 (i 0))) (rotv x0 x1 (i 0) (i 1))

/-- A slab of codes is the block of codes' there. -/
theorem piece_code (x0 : Vec Ideal S256x3584 .bf16) (x1 : Vec Ideal S256x256 .bf16) (o : ℕ)
    (inb : ∀ a, (![0, o] : Fin 2 → ℕ) a + (![256, 256] : Fin 2 → ℕ) a ≤ S256x3584.size a)
    (w v : Vec Ideal S256x256 .f32)
    (hv : ∀ x : S256x256.Idx, v x = rotA x0 x1 ((Rect.unit (s := S256x3584) ![0, o] ![256, 256] inb).emb x))
    (hw : ∀ r l : Fin 256, w (ix2 r l) = codeOf (pOf (rotv x0 x1 r)) (v (ix2 r l))) (x : S256x256.Idx) :
    w x = codeA x0 x1 ((Rect.unit (s := S256x3584) ![0, o] ![256, 256] inb).emb x) := by
  obtain ⟨r, l, rfl⟩ : ∃ r l, x = ix2 (n0 := 256) (n1 := 256) r l := ⟨x 0, x 1, eq_ix2 x⟩
  rw [hw, hv]
  have e : (Rect.unit (s := S256x3584) ![0, o] ![256, 256] inb).emb (ix2 r l) 0 = r := Fin.ext (by show 0 + 1 * r.val = r.val; omega)
  unfold codeA rotA
  rw [e]

section
variable (c : Dev nD) (i : grid0.Coords) (arg1 : Memref sig .tc .vmem S256x3584 .bf16) (harg1 : arg1.IsWhole) (arg2 : Memref sig .tc .vmem S256x256 .bf16) (harg2 : arg2.IsWhole) (arg3 : Memref sig .tc .vmem S256x3584 .fp8e4m3) (harg3 : arg3.IsWhole) (arg4 : Memref sig .tc .vmem S256x1 .f32) (harg4 : arg4.IsWhole) (arg5 : Memref sig .tc .vmem S256x3584 .f32) (harg5 : arg5.IsWhole)
    (x0 : Vec Ideal S256x3584 .bf16) (x1 : Vec Ideal S256x256 .bf16)

/-- Every piece stored to the codes' buffer is the block of codes'. -/
theorem pieces_code : View.PiecesOf (codeA x0 x1) (kernelRun0_A (F := Ideal) c i arg1 harg1 arg2 harg2 arg3 harg3 arg4 harg4 arg5 harg5 x0 x1).1 := by
  have h10 := r10_eq c arg1 harg1 arg2 harg2 x0 x1
  have h12 := r12_eq c arg1 harg1 arg2 harg2 x0 x1
  have hc := fun (r : Rect S256x3584) => readCov_rot c arg1 harg1 arg2 harg2 arg5 x0 x1 r
  unfold kernelRun0_A
  dsimp only
  exact ⟨piece_code x0 x1 3328 inb_S256x3584_S256x256_0_3328 _ _ (hc (Rect.unit (s := S256x3584) ![0, 3328] ![256, 256] inb_S256x3584_S256x256_0_3328)) (fun r l => pay58_at _ _ _ _ _ (h12 r)),
    piece_code x0 x1 3072 inb_S256x3584_S256x256_0_3072 _ _ (hc (Rect.unit (s := S256x3584) ![0, 3072] ![256, 256] inb_S256x3584_S256x256_0_3072)) (fun r l => pay57_at _ _ _ _ _ (h12 r)),
    piece_code x0 x1 2816 inb_S256x3584_S256x256_0_2816 _ _ (hc (Rect.unit (s := S256x3584) ![0, 2816] ![256, 256] inb_S256x3584_S256x256_0_2816)) (fun r l => pay56_at _ _ _ _ _ (h12 r)),
    piece_code x0 x1 2560 inb_S256x3584_S256x256_0_2560 _ _ (hc (Rect.unit (s := S256x3584) ![0, 2560] ![256, 256] inb_S256x3584_S256x256_0_2560)) (fun r l => pay55_at _ _ _ _ _ (h12 r)),
    piece_code x0 x1 2304 inb_S256x3584_S256x256_0_2304 _ _ (hc (Rect.unit (s := S256x3584) ![0, 2304] ![256, 256] inb_S256x3584_S256x256_0_2304)) (fun r l => pay52_at _ _ _ _ _ (h12 r)),
    piece_code x0 x1 2048 inb_S256x3584_S256x256_0_2048 _ _ (hc (Rect.unit (s := S256x3584) ![0, 2048] ![256, 256] inb_S256x3584_S256x256_0_2048)) (fun r l => pay51_at _ _ _ _ _ (h12 r)),
    piece_code x0 x1 1792 inb_S256x3584_S256x256_0_1792 _ _ (hc (Rect.unit (s := S256x3584) ![0, 1792] ![256, 256] inb_S256x3584_S256x256_0_1792)) (fun r l => pay50_at _ _ _ _ _ (h12 r)),
    piece_code x0 x1 1536 inb_S256x3584_S256x256_0_1536 _ _ (hc (Rect.unit (s := S256x3584) ![0, 1536] ![256, 256] inb_S256x3584_S256x256_0_1536)) (fun r l => pay49_at _ _ _ _ _ (h12 r)),
    piece_code x0 x1 1280 inb_S256x3584_S256x256_0_1280 _ _ (hc (Rect.unit (s := S256x3584) ![0, 1280] ![256, 256] inb_S256x3584_S256x256_0_1280)) (fun r l => pay48_at _ _ _ _ _ (h12 r)),
    piece_code x0 x1 1024 inb_S256x3584_S256x256_0_1024 _ _ (hc (Rect.unit (s := S256x3584) ![0, 1024] ![256, 256] inb_S256x3584_S256x256_0_1024)) (fun r l => pay47_at _ _ _ _ _ (h12 r)),
    piece_code x0 x1 768 inb_S256x3584_S256x256_0_768 _ _ (hc (Rect.unit (s := S256x3584) ![0, 768] ![256, 256] inb_S256x3584_S256x256_0_768)) (fun r l => pay46_at _ _ _ _ _ (h12 r)),
    piece_code x0 x1 512 inb_S256x3584_S256x256_0_512 _ _ (hc (Rect.unit (s := S256x3584) ![0, 512] ![256, 256] inb_S256x3584_S256x256_0_512)) (fun r l => pay45_at _ _ _ _ _ (h10 r)),
    piece_code x0 x1 256 inb_S256x3584_S256x256_0_256 _ _ (hc (Rect.unit (s := S256x3584) ![0, 256] ![256, 256] inb_S256x3584_S256x256_0_256)) (fun r l => pay44_at _ _ _ _ _ (h10 r)),
    piece_code x0 x1 0 inb_S256x3584_S256x256_0_0 _ _ (hc (Rect.unit (s := S256x3584) ![0, 0] ![256, 256] inb_S256x3584_S256x256_0_0)) (fun r l => pay43_at _ _ _ _ _ (h10 r)), trivial⟩

/-- The codes the body leaves. -/
theorem out2_eq : out0_A_2 c i arg1 harg1 arg2 harg2 arg3 harg3 arg4 harg4 arg5 harg5 x0 x1 = codeA x0 x1 := by
  unfold out0_A_2
  rw [View.read_writes_junk_eq_canon]
  funext y
  exact View.canon_apply_of_pieces _ _ (pieces_code c i arg1 harg1 arg2 harg2 arg3 harg3 arg4 harg4 arg5 harg5 x0 x1).mem _
    (cover0_A_2 c i arg1 harg1 arg2 harg2 arg3 harg3 arg4 harg4 arg5 harg5 x0 x1 y)
end
-- ==== Proof.Arrays.lean ====
module
public import proofs.«01_k».proof.Proof.RotateBlock
public import Idealize.ShloMosaic.Lib.Pipeline.Covers

/-! What the two kernels leave in their result arrays, element by element. -/

@[expose] public section
set_option maxRecDepth 16384
noncomputable section
namespace Cert.KernelIdeal.Val
open Idealize.ShloMosaic Idealize.ShloMosaic.TcCoe Idealize.ShloMosaic.Tactic Cert.KernelIdeal.Gen

/-- Entry `(m, j)` of the rotated array: the run of 256 columns around column `j` of row `m`, against column `j mod 256` of
    the table of signs, times the weight. -/
def rotG (X : Vec Ideal S16384x3584 .bf16) (S : Vec Ideal S256x256 .bf16) (m : Fin 16384) (j : Fin 3584) : EReal :=
  (∑ k : Fin 256, X (ix2 m ⟨256 * (j.val / 256) + k.val, by omega⟩) * S (ix2 k ⟨j.val % 256, by omega⟩))
    * Ideal.ofBits .f32 0x3DB504F3#32

variable (V : (c : Dev nD) → (b : Ref sig .tc) → Buf (Elt Ideal) ((c : Thread nD τ).loc b))

theorem idx0 : ∀ t : Fin grid0.N, (win0_0.index t = ![t.val, 0] ∧ win0_1.index t = ![0, 0]) ∧ win0_2.index t = ![t.val, 0] ∧ win0_3.index t = ![t.val, 0] := by
  decide +kernel

theorem iblk0_rot (c : Dev nD) (t : Fin grid0.N) (r : Fin 256) (j : Fin 3584) (m : Fin 16384) (hm : m.val = t.val * 256 + r.val) :
    rotv (iblk0 V c 0 t) (iblk0 V c 1 t) r j = rotG (V c main_v0) (V c main_cst) m j := by
  unfold rotv rotG
  congr 1
  refine Finset.sum_congr rfl fun k _ => ?_
  congr 1 <;> blk_ext [iblk0, idx0 t]

theorem outs2 (c : Dev nD) (t : Fin grid0.N) : (outsAt0 V c t).1 = codeA (iblk0 V c 0 t) (iblk0 V c 1 t) := by
  unfold outsAt0
  dsimp only
  rw [out2_eq]
theorem outs3 (c : Dev nD) (t : Fin grid0.N) : (outsAt0 V c t).2 = fun x => scaleOf (pOf (rotv (iblk0 V c 0 t) (iblk0 V c 1 t) (x 0))) := by
  unfold outsAt0
  dsimp only
  rw [out3_eq]

/-- The rotation kernel's first result: the codes. -/
theorem arr0_2 (c : Dev nD) : (dat0 V c).arrAt 2 cfg0.N = fun i : S16384x3584.Idx =>
    codeOf (pOf (rotG (V c main_v0) (V c main_cst) (i 0))) (rotG (V c main_v0) (V c main_cst) (i 0) (i 1)) := by
  refine (dat0 V c).arrAt_eq_of_covers 2 _ (by decide +kernel) fun t hf y => ?_
  blk_simp
  rw [after0_2, outs2]
  have h0 : (((win0_2.blk t).view.emb y) 0).val = t.val * 256 + (y 0).val := by blk_simp [idx0 t]
  have h1 : (((win0_2.blk t).view.emb y) 1) = y 1 := by apply Fin.ext; blk_simp [idx0 t]
  unfold codeA
  have e : rotv (iblk0 V c 0 t) (iblk0 V c 1 t) (y 0) = rotG (V c main_v0) (V c main_cst) (((win0_2.blk t).view.emb y) 0) :=
    funext fun j => iblk0_rot V c t (y 0) j _ h0
  rw [← h1, e]

/-- The rotation kernel's second result: the scales. -/
theorem arr0_3 (c : Dev nD) : (dat0 V c).arrAt 3 cfg0.N = fun i : S16384x1.Idx =>
    scaleOf (pOf (rotG (V c main_v0) (V c main_cst) (i 0))) := by
  refine (dat0 V c).arrAt_eq_of_covers 3 _ (by decide +kernel) fun t hf y => ?_
  blk_simp
  rw [after0_3, outs3]
  have h0 : (((win0_3.blk t).view.emb y) 0).val = t.val * 256 + (y 0).val := by blk_simp [idx0 t]
  have e : rotv (iblk0 V c 0 t) (iblk0 V c 1 t) (y 0) = rotG (V c main_v0) (V c main_cst) (((win0_3.blk t).view.emb y) 0) :=
    funext fun j => iblk0_rot V c t (y 0) j _ h0
  rw [← e]

theorem idx1 : ∀ t : Fin grid1.N, (win1_0.index t = ![t.val / 37, 0] ∧ win1_1.index t = ![0, t.val % 37]) ∧ win1_2.index t = ![t.val / 37, 0] ∧ win1_3.index t = ![0, t.val % 37] ∧ win1_4.index t = ![t.val / 37, t.val % 37] := by
  decide +kernel

/-- The product of the codes with the weights, each entry times its row's scale and its column's. -/
def prodG (C : Vec Ideal S16384x3584 .fp8e4m3) (W : Vec Ideal S3584x18944 .fp8e4m3) (s : Vec Ideal S16384x1 .f32) (w : Vec Ideal S1x18944 .f32)
    (m : Fin 16384) (n : Fin 18944) : EReal :=
  (∑ k : Fin 3584, C (ix2 m k) * W (ix2 k n)) * s (ix2 m 0) * w (ix2 0 n)

theorem pay1_at (a : Vec Ideal S2048x3584 .fp8e4m3) (b : Vec Ideal S3584x512 .fp8e4m3) (s : Vec Ideal S2048x1 .f32) (w : Vec Ideal S1x512 .f32)
    (r : Fin 2048) (l : Fin 512) :
    k1_pay1 a b s w (ix2 r l) = (∑ k : Fin 3584, a (ix2 r k) * b (ix2 k l)) * s (ix2 r 0) * w (ix2 0 l) := by
  pointwise [k1_pay1]

/-- The product kernel's result. -/
theorem arr1_4 (c : Dev nD) : (dat1 V c).arrAt 4 cfg1.N = fun i : S16384x18944.Idx =>
    prodG (V c main_v1_0) (V c main_arg1) (V c main_v1_1) (V c main_v2) (i 0) (i 1) := by
  refine (dat1 V c).arrAt_eq_of_covers 4 _ (by decide +kernel) fun t hf y => ?_
  blk_simp
  rw [after1_4]
  frame_out
  obtain ⟨r, l, rfl⟩ : ∃ r l, y = ix2 (n0 := 2048) (n1 := 512) r l := ⟨y 0, y 1, eq_ix2 y⟩
  refine (pay1_at _ _ _ _ r l).trans ?_
  have h0 : (((win1_4.blk t).view.emb (ix2 (n0 := 2048) (n1 := 512) r l)) 0).val = t.val / 37 * 2048 + r.val := by blk_simp [idx1 t]
  have h1 : (((win1_4.blk t).view.emb (ix2 (n0 := 2048) (n1 := 512) r l)) 1).val = t.val % 37 * 512 + l.val := by blk_simp [idx1 t]
  generalize ((win1_4.blk t).view.emb (ix2 (n0 := 2048) (n1 := 512) r l)) 0 = m at h0
  generalize ((win1_4.blk t).view.emb (ix2 (n0 := 2048) (n1 := 512) r l)) 1 = n at h1
  unfold prodG
  refine congr (congrArg _ (congr (congrArg _ (Finset.sum_congr rfl fun k _ => ?_)) ?_)) ?_
  · congr 1 <;> blk_ext [iblk1, idx1 t]
  · blk_ext [iblk1, idx1 t]
  · blk_ext [iblk1, idx1 t]

end Cert.KernelIdeal.Val
-- ==== Proof.Run.lean ====
module
public import proofs.«01_k».proof.Proof.Arrays
public import Idealize.ShloMosaic.Lib.Claim

/-! The whole kernel's run: what its results hold, from its arguments. -/

@[expose] public section
set_option maxRecDepth 16384
noncomputable section
namespace Cert.KernelIdeal.Val
open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The table of signs. -/
def signs : Vec Ideal S256x256 .bf16 := fun i => FloatOps.ofBits (F := Ideal) .bf16 (lit0 (S256x256.rowMajor i))

/-- Row `(b, t)` of x, rotated, at column `j`. -/
def rowK (x : Vec Ideal S8x2048x3584 .bf16) (b : Fin 8) (t : Fin 2048) (j : Fin 3584) : EReal :=
  (∑ k : Fin 256, x (ix3 b t ⟨256 * (j.val / 256) + k.val, by omega⟩) * signs (ix2 k ⟨j.val % 256, by omega⟩))
    * Ideal.ofBits .f32 0x3DB504F3#32
/-- The scales of x. -/
def scaleK (x : Vec Ideal S8x2048x3584 .bf16) : Vec Ideal S8x2048x1 .f32 := fun i => scaleOf (pOf (rowK x (i 0) (i 1)))
/-- The codes of x. -/
def codesK (x : Vec Ideal S8x2048x3584 .bf16) : Vec Ideal S8x2048x3584 .fp8e4m3 :=
  fun i => codeOf (pOf (rowK x (i 0) (i 1))) (rowK x (i 0) (i 1) (i 2))
/-- The layer's output. -/
def outK (x : Vec Ideal S8x2048x3584 .bf16) (w : Vec Ideal S3584x18944 .fp8e4m3) (s : Vec Ideal S18944 .f32) : Vec Ideal S8x2048x18944 .bf16 :=
  fun i => (∑ k : Fin 3584, codesK x (ix3 (i 0) (i 1) k) * w (ix2 k (i 2))) * scaleK x (ix3 (i 0) (i 1) 0) * s (ix1 (i 2))

local notation "𝕄" => MT nD τ sig Unit (Elt Ideal) ℕ (UR sig nD τ) ℕ

variable (m : (ℓ : Loc nD τ sig) → Buf (Elt Ideal) ℓ) (ρ : Dev nD → PrngReg)

/-- The argument x. -/
abbrev ax (c : Dev nD) : Vec Ideal S8x2048x3584 .bf16 := m ((c.tc : Thread nD τ).loc main_arg0)
/-- The argument of weights. -/
abbrev aw (c : Dev nD) : Vec Ideal S3584x18944 .fp8e4m3 := m ((c.tc : Thread nD τ).loc main_arg1)
/-- The argument of weight scales. -/
abbrev asc (c : Dev nD) : Vec Ideal S18944 .f32 := m ((c.tc : Thread nD τ).loc main_arg2)

theorem V1_v0 (c : Dev nD) : V1 m ρ c main_v0 = shapeCast S16384x3584 (ax m c) shapeCasts_S8x2048x3584_S16384x3584 := by
  show StableHlo.after hostOps0 _ _ = _
  unfold_abbrev_sides
  after_results
  rfl

theorem V1_cst (c : Dev nD) : V1 m ρ c main_cst = signs := by
  show StableHlo.after hostOps0 _ _ = _
  unfold_abbrev_sides
  after_results
  rfl

theorem rotG_row (c : Dev nD) (b : Fin 8) (t : Fin 2048) (r : Fin 16384) (h : r.val = 2048 * b.val + t.val) :
    rotG (V1 m ρ c main_v0) (V1 m ρ c main_cst) r = rowK (ax m c) b t := by
  funext j
  rw [V1_v0, V1_cst]
  unfold rotG rowK
  congr 1
  refine Finset.sum_congr rfl fun k _ => ?_
  congr 1
  pointwise
  rw [show (⟨r.val / 2048, by omega⟩ : Fin 8) = b from Fin.ext (by show r.val / 2048 = b.val; omega),
    show (⟨r.val % 2048, by omega⟩ : Fin 2048) = t from Fin.ext (by show r.val % 2048 = t.val; omega)]

/-- The flat codes. -/
def codesG (x : Vec Ideal S8x2048x3584 .bf16) : Vec Ideal S16384x3584 .fp8e4m3 := shapeCast S16384x3584 (codesK x) shapeCasts_S8x2048x3584_S16384x3584

/-- The flat scales. -/
def scaleG (x : Vec Ideal S8x2048x3584 .bf16) : Vec Ideal S16384x1 .f32 := shapeCast S16384x1 (scaleK x) (by decide)

theorem W2_codes (c : Dev nD) : W2 m ρ c (Proc.devRef .tc main_v1_0) = codesG (ax m c) := by
  refine (W2_arr m ρ c 2).trans ((arr0_2 _ c).trans ?_)
  funext i
  obtain ⟨r, l, rfl⟩ : ∃ r l, i = ix2 (n0 := 16384) (n1 := 3584) r l := ⟨i 0, i 1, eq_ix2 i⟩
  unfold codesG codesK
  show codeOf (pOf (rotG _ _ r)) (rotG _ _ r l) = _
  rw [rotG_row m ρ c ⟨r.val / 2048, by omega⟩ ⟨r.val % 2048, by omega⟩ r (by show r.val = 2048 * (r.val / 2048) + r.val % 2048; omega)]
  pointwise

theorem W2_scale (c : Dev nD) : W2 m ρ c (Proc.devRef .tc main_v1_1) = scaleG (ax m c) := by
  refine (W2_arr m ρ c 3).trans ((arr0_3 _ c).trans ?_)
  funext i
  obtain ⟨r, l, rfl⟩ : ∃ r l, i = ix2 (n0 := 16384) (n1 := 1) r l := ⟨i 0, i 1, eq_ix2 i⟩
  unfold scaleG scaleK
  show scaleOf (pOf (rotG _ _ r)) = _
  rw [rotG_row m ρ c ⟨r.val / 2048, by omega⟩ ⟨r.val % 2048, by omega⟩ r (by show r.val = 2048 * (r.val / 2048) + r.val % 2048; omega)]
  pointwise

theorem V3_codes (c : Dev nD) : V3 m ρ c main_v1_0 = codesG (ax m c) :=
  (W3_of m ρ c main_v1_0 (by decide)).trans (W2_codes m ρ c)
theorem V3_scale (c : Dev nD) : V3 m ρ c main_v1_1 = scaleG (ax m c) :=
  (W3_of m ρ c main_v1_1 (by decide)).trans (W2_scale m ρ c)
theorem V3_w (c : Dev nD) : V3 m ρ c main_arg1 = aw m c := W3_args m ρ c main_arg1 (by decide)
theorem V3_s (c : Dev nD) : V3 m ρ c main_v2 = shapeCast S1x18944 (asc m c) shapeCasts_S18944_S1x18944 := by
  have h : W2 m ρ c (Proc.devRef .tc main_arg2) = asc m c := W2_args m ρ c main_arg2 (by decide)
  show StableHlo.after hostOps1 _ _ = _
  rw [← h]
  unfold_abbrev_sides
  after_results
  rfl

theorem W5_scale (c : Dev nD) : W5 m ρ c (Proc.devRef .tc main_v6) = scaleK (ax m c) := by
  have h : W4 m ρ c (Proc.devRef .tc main_v1_1) = scaleG (ax m c) :=
    (W4_of m ρ c main_v1_1 (by decide +kernel)).trans (V3_scale m ρ c)
  have e : W5 m ρ c (Proc.devRef .tc main_v6) = shapeCast S8x2048x1 (W4 m ρ c (Proc.devRef .tc main_v1_1)) shapeCasts_S16384x1_S8x2048x1 := by
    unfold_abbrev_sides
    after_results
    rfl
  rw [e, h]
  funext i
  unfold scaleG
  obtain ⟨b, t, l, rfl⟩ : ∃ b t l, i = ix3 (n0 := 8) (n1 := 2048) (n2 := 1) b t l := ⟨i 0, i 1, i 2, eq_ix3 i⟩
  obtain rfl : l = 0 := Subsingleton.elim _ _
  pointwise

theorem W5_codes (c : Dev nD) : W5 m ρ c (Proc.devRef .tc main_v5) = codesK (ax m c) := by
  have h : W4 m ρ c (Proc.devRef .tc main_v1_0) = codesG (ax m c) :=
    (W4_of m ρ c main_v1_0 (by decide +kernel)).trans (V3_codes m ρ c)
  have e : W5 m ρ c (Proc.devRef .tc main_v5) = shapeCast S8x2048x3584 (W4 m ρ c (Proc.devRef .tc main_v1_0)) shapeCasts_S16384x3584_S8x2048x3584 := by
    unfold_abbrev_sides
    after_results
    rfl
  rw [e, h]
  funext i
  unfold codesG
  obtain ⟨b, t, l, rfl⟩ : ∃ b t l, i = ix3 (n0 := 8) (n1 := 2048) (n2 := 3584) b t l := ⟨i 0, i 1, i 2, eq_ix3 i⟩
  pointwise

theorem W5_out (c : Dev nD) : W5 m ρ c (Proc.devRef .tc main_v4) = outK (ax m c) (aw m c) (asc m c) := by
  have h := (W4_arr m ρ c 4).trans (arr1_4 (V3 m ρ) c)
  rw [V3_codes, V3_scale, V3_w, V3_s] at h
  have e : W5 m ρ c (Proc.devRef .tc main_v4) = shapeCast S8x2048x18944 (W4 m ρ c (Proc.devRef .tc main_v3)) shapeCasts_S16384x18944_S8x2048x18944 := by
    unfold_abbrev_sides
    after_results
    rfl
  rw [e, show W4 m ρ c (Proc.devRef .tc main_v3) = _ from h]
  funext i
  unfold scaleG codesG
  obtain ⟨b, t, l, rfl⟩ : ∃ b t l, i = ix3 (n0 := 8) (n1 := 2048) (n2 := 18944) b t l := ⟨i 0, i 1, i 2, eq_ix3 i⟩
  pointwise [prodG, outK]
  have e1 : (b.val * 2048 + t.val) / 2048 = b.val := by omega
  have e2 : (b.val * 2048 + t.val) % 2048 = t.val := by omega
  simp only [e1, e2, Fin.eta]

set_option backward.isDefEq.respectTransparency.types false in
/-- THE KERNEL'S RUN at exact arithmetic: from any memory its results end as the output, the codes and the scales of its
    arguments, which it leaves as it found them. -/
theorem run : θ_run (defs (F := Ideal)) (onTc (τ := τ) (main (F := Ideal))) ⟨m, fun _ => 0, ρ⟩ (fun r => ∀ c : Dev nD,
      r.2.mem ((c.tc : Thread nD τ).loc main_v4) = outK (ax m c) (aw m c) (asc m c)
      ∧ r.2.mem ((c.tc : Thread nD τ).loc main_v5) = codesK (ax m c)
      ∧ r.2.mem ((c.tc : Thread nD τ).loc main_v6) = scaleK (ax m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨(h c _ (mem_uc main_v4 (by decide))).trans (W5_out m ρ c),
       (h c _ (mem_uc main_v5 (by decide))).trans (W5_codes m ρ c),
       (h c _ (mem_uc main_v6 (by decide))).trans (W5_scale m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.KernelIdeal.Val
-- ==== Proof.SignWord.lean ====
module
public import proofs.«01_k».proof.KernelIdeal

/-! The table of signs in closed form: the 128 by 128 Hadamard matrix twice on the diagonal. -/

@[expose] public section
set_option maxRecDepth 16384
noncomputable section
namespace Cert.KernelIdeal.Val
open Idealize.ShloMosaic

/-- Whether entry `(i, j)` of the Hadamard matrix of order `2^n` is negative: the parity of the binary digits that `i`
    and `j` share. -/
def sgn : ℕ → ℕ → ℕ → Bool
  | 0, _, _ => false
  | n + 1, i, j => Bool.xor (sgn n (i / 2) (j / 2)) (i % 2 == 1 && j % 2 == 1)

/-- The word at entry `(i, j)` of the kernel's table of signs: 1 or -1 in the two blocks on the diagonal, 0 or -0 outside. -/
def signWord (i j : ℕ) : BitVec 16 :=
  bif i / 128 == j / 128 then (bif sgn 7 (i % 128) (j % 128) then 0xBF80#16 else 0x3F80#16)
  else (bif sgn 7 (i % 128) (j % 128) then 0x8000#16 else 0#16)

end Cert.KernelIdeal.Val
-- ==== Proof.Signs0.lean ====
module
public import proofs.«01_k».proof.Proof.SignWord

/-! The table of signs, rows 0 to 63. -/

@[expose] public section
set_option maxRecDepth 16384
noncomputable section
namespace Cert.KernelIdeal.Val
open Idealize.ShloMosaic

/-- Rows 0 to 31 of the table are as `signWord` says. -/
theorem signs0_lo : ∀ i : Fin 32, ∀ j : Fin 256, lit0t ((0 + i.val) * 256 + j.val) = signWord (0 + i.val) j.val := by
  decide +kernel
/-- Rows 32 to 63. -/
theorem signs0_hi : ∀ i : Fin 32, ∀ j : Fin 256, lit0t ((32 + i.val) * 256 + j.val) = signWord (32 + i.val) j.val := by
  decide +kernel

end Cert.KernelIdeal.Val
-- ==== Proof.Signs1.lean ====
module
public import proofs.«01_k».proof.Proof.SignWord

/-! The table of signs, rows 64 to 127. -/

@[expose] public section
set_option maxRecDepth 16384
noncomputable section
namespace Cert.KernelIdeal.Val
open Idealize.ShloMosaic

/-- Rows 64 to 95 of the table are as `signWord` says. -/
theorem signs1_lo : ∀ i : Fin 32, ∀ j : Fin 256, lit0t ((64 + i.val) * 256 + j.val) = signWord (64 + i.val) j.val := by
  decide +kernel
/-- Rows 96 to 127. -/
theorem signs1_hi : ∀ i : Fin 32, ∀ j : Fin 256, lit0t ((96 + i.val) * 256 + j.val) = signWord (96 + i.val) j.val := by
  decide +kernel

end Cert.KernelIdeal.Val
-- ==== Proof.Signs2.lean ====
module
public import proofs.«01_k».proof.Proof.SignWord

/-! The table of signs, rows 128 to 191. -/

@[expose] public section
set_option maxRecDepth 16384
noncomputable section
namespace Cert.KernelIdeal.Val
open Idealize.ShloMosaic

/-- Rows 128 to 159 of the table are as `signWord` says. -/
theorem signs2_lo : ∀ i : Fin 32, ∀ j : Fin 256, lit0t ((128 + i.val) * 256 + j.val) = signWord (128 + i.val) j.val := by
  decide +kernel
/-- Rows 160 to 191. -/
theorem signs2_hi : ∀ i : Fin 32, ∀ j : Fin 256, lit0t ((160 + i.val) * 256 + j.val) = signWord (160 + i.val) j.val := by
  decide +kernel

end Cert.KernelIdeal.Val
-- ==== Proof.Signs3.lean ====
module
public import proofs.«01_k».proof.Proof.SignWord

/-! The table of signs, rows 192 to 255. -/

@[expose] public section
set_option maxRecDepth 16384
noncomputable section
namespace Cert.KernelIdeal.Val
open Idealize.ShloMosaic

/-- Rows 192 to 223 of the table are as `signWord` says. -/
theorem signs3_lo : ∀ i : Fin 32, ∀ j : Fin 256, lit0t ((192 + i.val) * 256 + j.val) = signWord (192 + i.val) j.val := by
  decide +kernel
/-- Rows 224 to 255. -/
theorem signs3_hi : ∀ i : Fin 32, ∀ j : Fin 256, lit0t ((224 + i.val) * 256 + j.val) = signWord (224 + i.val) j.val := by
  decide +kernel

end Cert.KernelIdeal.Val
-- ==== Proof.SignTable.lean ====
module
public import proofs.«01_k».proof.Proof.Signs0
public import proofs.«01_k».proof.Proof.Signs1
public import proofs.«01_k».proof.Proof.Signs2
public import proofs.«01_k».proof.Proof.Signs3
public import proofs.«01_k».proof.Proof.Run

/-! The kernel's table of signs as extended reals. -/

@[expose] public section
set_option maxRecDepth 16384
noncomputable section
namespace Cert.KernelIdeal.Val
open Idealize.ShloMosaic Idealize.ShloMosaic.TcCoe Idealize.ShloMosaic.Tactic Cert.KernelIdeal.Gen

theorem signs_word (i j : ℕ) (hi : i < 256) (hj : j < 256) : lit0t (i * 256 + j) = signWord i j := by
  have H : ∀ o r, r < 32 → o + r = i → (∀ i : Fin 32, ∀ j : Fin 256, lit0t ((o + i.val) * 256 + j.val) = signWord (o + i.val) j.val) →
      lit0t (i * 256 + j) = signWord i j := fun o r hr e h => by
    have := h ⟨r, hr⟩ ⟨j, hj⟩
    simp only [e] at this
    exact this
  have hq : i / 32 < 8 := by omega
  rcases (by omega : i / 32 = 0 ∨ i / 32 = 1 ∨ i / 32 = 2 ∨ i / 32 = 3 ∨ i / 32 = 4 ∨ i / 32 = 5 ∨ i / 32 = 6 ∨ i / 32 = 7) with h | h | h | h | h | h | h | h
  · exact H 0 (i - 0) (by omega) (by omega) signs0_lo
  · exact H 32 (i - 32) (by omega) (by omega) signs0_hi
  · exact H 64 (i - 64) (by omega) (by omega) signs1_lo
  · exact H 96 (i - 96) (by omega) (by omega) signs1_hi
  · exact H 128 (i - 128) (by omega) (by omega) signs2_lo
  · exact H 160 (i - 160) (by omega) (by omega) signs2_hi
  · exact H 192 (i - 192) (by omega) (by omega) signs3_lo
  · exact H 224 (i - 224) (by omega) (by omega) signs3_hi

/-- Entry `(k, j)` of the table: 1 or -1 in the two blocks on the diagonal, 0 outside. -/
theorem signs_at (k j : Fin 256) : signs (ix2 k j)
    = if k.val / 128 = j.val / 128 then (bif sgn 7 (k.val % 128) (j.val % 128) then (-1 : EReal) else 1) else 0 := by
  have e : lit0 (S256x256.rowMajor (ix2 k j)) = signWord k.val j.val := by
    have hv : (S256x256.rowMajor (ix2 k j)).val = k.val * 256 + j.val := Shape.rowMajor_val_two (d := ![256, 256]) _
    have : lit0 (S256x256.rowMajor (ix2 k j)) = lit0t (S256x256.rowMajor (ix2 k j)).val := rfl
    rw [this, hv, signs_word _ _ k.isLt j.isLt]
  show Ideal.ofBits .bf16 (lit0 (S256x256.rowMajor (ix2 k j))) = _
  rw [e]
  unfold signWord
  have w1 : Ideal.ofBits .bf16 0xBF80#16 = -1 := by
    simp [Ideal.ofBits, Ideal.ieee]
    rw [← EReal.coe_mul]
    norm_num
  have w2 : Ideal.ofBits .bf16 0x3F80#16 = 1 := by
    simp [Ideal.ofBits, Ideal.ieee]
    rw [← EReal.coe_mul]
    norm_num
  have w3 : Ideal.ofBits .bf16 0x8000#16 = 0 := by simp [Ideal.ofBits, Ideal.ieee]
  have w4 : Ideal.ofBits .bf16 0#16 = 0 := by simp [Ideal.ofBits, Ideal.ieee]
  by_cases h : k.val / 128 = j.val / 128
  · rw [if_pos h, beq_iff_eq.2 h]
    cases sgn 7 (k.val % 128) (j.val % 128)
    · exact w2
    · exact w1
  · rw [if_neg h, beq_eq_false_iff_ne.2 h]
    cases sgn 7 (k.val % 128) (j.val % 128)
    · exact w4
    · exact w3

end Cert.KernelIdeal.Val
-- ==== Proof.Hadamard.lean ====
module
public import proofs.«01_k».proof.Proof.Gen.ReferenceIdeal.Frame
public import proofs.«01_k».proof.Proof.SignWord
public import Idealize.ShloMosaic.Lib.Pointwise
public import Idealize.ShloMosaic.Lib.Pipeline.ValueKit
public import Idealize.ShloMosaic.Lib.Claim

/-! The reference's Hadamard matrix, Kronecker product by Kronecker product, in closed form. -/

@[expose] public section
set_option maxRecDepth 16384
noncomputable section
namespace Cert.ReferenceIdeal.Val
open Idealize.ShloMosaic Idealize.ShloMosaic.TcCoe Idealize.ShloMosaic.Tactic Cert.ReferenceIdeal.Gen
open Cert.KernelIdeal.Val (sgn)

/-- Entry `(i, j)` of the Hadamard matrix of order `2^n`. -/
def had (n i j : ℕ) : EReal := bif sgn n i j then -1 else 1

theorem had_succ (n i j : ℕ) : had n (i / 2) (j / 2) * had 1 (i % 2) (j % 2) = had (n + 1) i j := by
  have h : sgn (n + 1) i j = Bool.xor (sgn n (i / 2) (j / 2)) (sgn 1 (i % 2) (j % 2)) := by
    show Bool.xor _ _ = Bool.xor _ (Bool.xor false _)
    rw [Bool.false_xor, Nat.mod_mod, Nat.mod_mod]
  unfold had
  rw [h]
  cases sgn n (i / 2) (j / 2) <;> cases sgn 1 (i % 2) (j % 2) <;> simp

variable (W : Valuation τ sig (Elt Ideal))

/-- The Kronecker product of order 2. -/
def kron1 (a : FVec Ideal S1x1 .f32) (b : FVec Ideal S2x2 .f32) : FVec Ideal S2x2 .f32 :=
  shapeCast S2x2 (mulf (broadcastInDim S1x2x1x2 ![0, 1, 2, 3] bcast_S1x1x1x1_S1x2x1x2_0_1_2_3 (broadcastInDim S1x1x1x1 ![0, 2] bcast_S1x1_S1x1x1x1_0_2 a))
      (broadcastInDim S1x2x1x2 ![1, 3] bcast_S2x2_S1x2x1x2_1_3 b)) shapeCasts_S1x2x1x2_S2x2
theorem kron1_read : StableHlo.after hostOps0_1 W (Proc.devRef .tc main_v2) = kron1 (W (Proc.devRef .tc main_v1)) (W (Proc.devRef .tc main_cst)) := by
  unfold_abbrev_sides
  after_results
  rfl
theorem kron1_had (a : FVec Ideal S1x1 .f32) (b : FVec Ideal S2x2 .f32) (ha : ∀ i j : Fin 1, a (ix2 i j) = had 0 i j)
    (hb : ∀ i j : Fin 2, b (ix2 i j) = had 1 i j) (i j : Fin 2) : kron1 a b (ix2 i j) = had 1 i j := by
  have h : kron1 a b (ix2 i j) = a (ix2 ⟨i.val / 2, by omega⟩ ⟨j.val / 2, by omega⟩) * b (ix2 ⟨i.val % 2, by omega⟩ ⟨j.val % 2, by omega⟩) := by
    have e0 : ∀ h, (⟨i.val / 2, h⟩ : Fin 1) = 0 := fun _ => Subsingleton.elim ..
    have e1 : ∀ h, (⟨j.val / 2, h⟩ : Fin 1) = 0 := fun _ => Subsingleton.elim ..
    have e2 : ∀ h, (⟨i.val % 2, h⟩ : Fin 2) = i := fun _ => Fin.ext (by have := i.isLt; show i.val % 2 = i.val; omega)
    have e3 : ∀ h, (⟨j.val % 2, h⟩ : Fin 2) = j := fun _ => Fin.ext (by have := j.isLt; show j.val % 2 = j.val; omega)
    rw [e0, e1, e2, e3]
    pointwise [kron1]
  rw [h, ha, hb]
  exact had_succ 0 i j
theorem kron1_keep : StableHlo.after hostOps0_1 W (Proc.devRef .tc main_cst) = W (Proc.devRef .tc main_cst) := by
  unfold_abbrev_sides
  after_results
theorem kron1_keep0 : StableHlo.after hostOps0_1 W (Proc.devRef .tc main_v0) = W (Proc.devRef .tc main_v0) := by
  unfold_abbrev_sides
  after_results

/-- The Kronecker product of order 4. -/
def kron2 (a : FVec Ideal S2x2 .f32) (b : FVec Ideal S2x2 .f32) : FVec Ideal S4x4 .f32 :=
  shapeCast S4x4 (mulf (broadcastInDim S2x2x2x2 ![0, 1, 2, 3] bcast_S2x1x2x1_S2x2x2x2_0_1_2_3 (broadcastInDim S2x1x2x1 ![0, 2] bcast_S2x2_S2x1x2x1_0_2 a))
      (broadcastInDim S2x2x2x2 ![0, 1, 2, 3] bcast_S1x2x1x2_S2x2x2x2_0_1_2_3 (broadcastInDim S1x2x1x2 ![1, 3] bcast_S2x2_S1x2x1x2_1_3 b))) shapeCasts_S2x2x2x2_S4x4
theorem kron2_read : StableHlo.after hostOps0_2 W (Proc.devRef .tc main_v3) = kron2 (W (Proc.devRef .tc main_v2)) (W (Proc.devRef .tc main_cst)) := by
  unfold_abbrev_sides
  after_results
  rfl
theorem kron2_had (a : FVec Ideal S2x2 .f32) (b : FVec Ideal S2x2 .f32) (ha : ∀ i j : Fin 2, a (ix2 i j) = had 1 i j)
    (hb : ∀ i j : Fin 2, b (ix2 i j) = had 1 i j) (i j : Fin 4) : kron2 a b (ix2 i j) = had 2 i j := by
  have h : kron2 a b (ix2 i j) = a (ix2 ⟨i.val / 2, by omega⟩ ⟨j.val / 2, by omega⟩) * b (ix2 ⟨i.val % 2, by omega⟩ ⟨j.val % 2, by omega⟩) := by
    pointwise [kron2]
  rw [h, ha, hb]
  exact had_succ 1 i j
theorem kron2_keep : StableHlo.after hostOps0_2 W (Proc.devRef .tc main_cst) = W (Proc.devRef .tc main_cst) := by
  unfold_abbrev_sides
  after_results
theorem kron2_keep0 : StableHlo.after hostOps0_2 W (Proc.devRef .tc main_v0) = W (Proc.devRef .tc main_v0) := by
  unfold_abbrev_sides
  after_results

/-- The Kronecker product of order 8. -/
def kron3 (a : FVec Ideal S4x4 .f32) (b : FVec Ideal S2x2 .f32) : FVec Ideal S8x8 .f32 :=
  shapeCast S8x8 (mulf (broadcastInDim S4x2x4x2 ![0, 1, 2, 3] bcast_S4x1x4x1_S4x2x4x2_0_1_2_3 (broadcastInDim S4x1x4x1 ![0, 2] bcast_S4x4_S4x1x4x1_0_2 a))
      (broadcastInDim S4x2x4x2 ![0, 1, 2, 3] bcast_S1x2x1x2_S4x2x4x2_0_1_2_3 (broadcastInDim S1x2x1x2 ![1, 3] bcast_S2x2_S1x2x1x2_1_3 b))) shapeCasts_S4x2x4x2_S8x8
theorem kron3_read : StableHlo.after hostOps0_3 W (Proc.devRef .tc main_v4) = kron3 (W (Proc.devRef .tc main_v3)) (W (Proc.devRef .tc main_cst)) := by
  unfold_abbrev_sides
  after_results
  rfl
theorem kron3_had (a : FVec Ideal S4x4 .f32) (b : FVec Ideal S2x2 .f32) (ha : ∀ i j : Fin 4, a (ix2 i j) = had 2 i j)
    (hb : ∀ i j : Fin 2, b (ix2 i j) = had 1 i j) (i j : Fin 8) : kron3 a b (ix2 i j) = had 3 i j := by
  have h : kron3 a b (ix2 i j) = a (ix2 ⟨i.val / 2, by omega⟩ ⟨j.val / 2, by omega⟩) * b (ix2 ⟨i.val % 2, by omega⟩ ⟨j.val % 2, by omega⟩) := by
    pointwise [kron3]
  rw [h, ha, hb]
  exact had_succ 2 i j
theorem kron3_keep : StableHlo.after hostOps0_3 W (Proc.devRef .tc main_cst) = W (Proc.devRef .tc main_cst) := by
  unfold_abbrev_sides
  after_results
theorem kron3_keep0 : StableHlo.after hostOps0_3 W (Proc.devRef .tc main_v0) = W (Proc.devRef .tc main_v0) := by
  unfold_abbrev_sides
  after_results

/-- The Kronecker product of order 16. -/
def kron4 (a : FVec Ideal S8x8 .f32) (b : FVec Ideal S2x2 .f32) : FVec Ideal S16x16 .f32 :=
  shapeCast S16x16 (mulf (broadcastInDim S8x2x8x2 ![0, 1, 2, 3] bcast_S8x1x8x1_S8x2x8x2_0_1_2_3 (broadcastInDim S8x1x8x1 ![0, 2] bcast_S8x8_S8x1x8x1_0_2 a))
      (broadcastInDim S8x2x8x2 ![0, 1, 2, 3] bcast_S1x2x1x2_S8x2x8x2_0_1_2_3 (broadcastInDim S1x2x1x2 ![1, 3] bcast_S2x2_S1x2x1x2_1_3 b))) shapeCasts_S8x2x8x2_S16x16
theorem kron4_read : StableHlo.after hostOps0_4 W (Proc.devRef .tc main_v5) = kron4 (W (Proc.devRef .tc main_v4)) (W (Proc.devRef .tc main_cst)) := by
  unfold_abbrev_sides
  after_results
  rfl
theorem kron4_had (a : FVec Ideal S8x8 .f32) (b : FVec Ideal S2x2 .f32) (ha : ∀ i j : Fin 8, a (ix2 i j) = had 3 i j)
    (hb : ∀ i j : Fin 2, b (ix2 i j) = had 1 i j) (i j : Fin 16) : kron4 a b (ix2 i j) = had 4 i j := by
  have h : kron4 a b (ix2 i j) = a (ix2 ⟨i.val / 2, by omega⟩ ⟨j.val / 2, by omega⟩) * b (ix2 ⟨i.val % 2, by omega⟩ ⟨j.val % 2, by omega⟩) := by
    pointwise [kron4]
  rw [h, ha, hb]
  exact had_succ 3 i j
theorem kron4_keep : StableHlo.after hostOps0_4 W (Proc.devRef .tc main_cst) = W (Proc.devRef .tc main_cst) := by
  unfold_abbrev_sides
  after_results
theorem kron4_keep0 : StableHlo.after hostOps0_4 W (Proc.devRef .tc main_v0) = W (Proc.devRef .tc main_v0) := by
  unfold_abbrev_sides
  after_results

/-- The Kronecker product of order 32. -/
def kron5 (a : FVec Ideal S16x16 .f32) (b : FVec Ideal S2x2 .f32) : FVec Ideal S32x32 .f32 :=
  shapeCast S32x32 (mulf (broadcastInDim S16x2x16x2 ![0, 1, 2, 3] bcast_S16x1x16x1_S16x2x16x2_0_1_2_3 (broadcastInDim S16x1x16x1 ![0, 2] bcast_S16x16_S16x1x16x1_0_2 a))
      (broadcastInDim S16x2x16x2 ![0, 1, 2, 3] bcast_S1x2x1x2_S16x2x16x2_0_1_2_3 (broadcastInDim S1x2x1x2 ![1, 3] bcast_S2x2_S1x2x1x2_1_3 b))) shapeCasts_S16x2x16x2_S32x32
theorem kron5_read : StableHlo.after hostOps0_5 W (Proc.devRef .tc main_v6) = kron5 (W (Proc.devRef .tc main_v5)) (W (Proc.devRef .tc main_cst)) := by
  unfold_abbrev_sides
  after_results
  rfl
theorem kron5_had (a : FVec Ideal S16x16 .f32) (b : FVec Ideal S2x2 .f32) (ha : ∀ i j : Fin 16, a (ix2 i j) = had 4 i j)
    (hb : ∀ i j : Fin 2, b (ix2 i j) = had 1 i j) (i j : Fin 32) : kron5 a b (ix2 i j) = had 5 i j := by
  have h : kron5 a b (ix2 i j) = a (ix2 ⟨i.val / 2, by omega⟩ ⟨j.val / 2, by omega⟩) * b (ix2 ⟨i.val % 2, by omega⟩ ⟨j.val % 2, by omega⟩) := by
    pointwise [kron5]
  rw [h, ha, hb]
  exact had_succ 4 i j
theorem kron5_keep : StableHlo.after hostOps0_5 W (Proc.devRef .tc main_cst) = W (Proc.devRef .tc main_cst) := by
  unfold_abbrev_sides
  after_results
theorem kron5_keep0 : StableHlo.after hostOps0_5 W (Proc.devRef .tc main_v0) = W (Proc.devRef .tc main_v0) := by
  unfold_abbrev_sides
  after_results

/-- The Kronecker product of order 64. -/
def kron6 (a : FVec Ideal S32x32 .f32) (b : FVec Ideal S2x2 .f32) : FVec Ideal S64x64 .f32 :=
  shapeCast S64x64 (mulf (broadcastInDim S32x2x32x2 ![0, 1, 2, 3] bcast_S32x1x32x1_S32x2x32x2_0_1_2_3 (broadcastInDim S32x1x32x1 ![0, 2] bcast_S32x32_S32x1x32x1_0_2 a))
      (broadcastInDim S32x2x32x2 ![0, 1, 2, 3] bcast_S1x2x1x2_S32x2x32x2_0_1_2_3 (broadcastInDim S1x2x1x2 ![1, 3] bcast_S2x2_S1x2x1x2_1_3 b))) shapeCasts_S32x2x32x2_S64x64
theorem kron6_read : StableHlo.after hostOps0_6 W (Proc.devRef .tc main_v7) = kron6 (W (Proc.devRef .tc main_v6)) (W (Proc.devRef .tc main_cst)) := by
  unfold_abbrev_sides
  after_results
  rfl
theorem kron6_had (a : FVec Ideal S32x32 .f32) (b : FVec Ideal S2x2 .f32) (ha : ∀ i j : Fin 32, a (ix2 i j) = had 5 i j)
    (hb : ∀ i j : Fin 2, b (ix2 i j) = had 1 i j) (i j : Fin 64) : kron6 a b (ix2 i j) = had 6 i j := by
  have h : kron6 a b (ix2 i j) = a (ix2 ⟨i.val / 2, by omega⟩ ⟨j.val / 2, by omega⟩) * b (ix2 ⟨i.val % 2, by omega⟩ ⟨j.val % 2, by omega⟩) := by
    pointwise [kron6]
  rw [h, ha, hb]
  exact had_succ 5 i j
theorem kron6_keep : StableHlo.after hostOps0_6 W (Proc.devRef .tc main_cst) = W (Proc.devRef .tc main_cst) := by
  unfold_abbrev_sides
  after_results
theorem kron6_keep0 : StableHlo.after hostOps0_6 W (Proc.devRef .tc main_v0) = W (Proc.devRef .tc main_v0) := by
  unfold_abbrev_sides
  after_results

/-- The Kronecker product of order 128. -/
def kron7 (a : FVec Ideal S64x64 .f32) (b : FVec Ideal S2x2 .f32) : FVec Ideal S128x128 .f32 :=
  shapeCast S128x128 (mulf (broadcastInDim S64x2x64x2 ![0, 1, 2, 3] bcast_S64x1x64x1_S64x2x64x2_0_1_2_3 (broadcastInDim S64x1x64x1 ![0, 2] bcast_S64x64_S64x1x64x1_0_2 a))
      (broadcastInDim S64x2x64x2 ![0, 1, 2, 3] bcast_S1x2x1x2_S64x2x64x2_0_1_2_3 (broadcastInDim S1x2x1x2 ![1, 3] bcast_S2x2_S1x2x1x2_1_3 b))) shapeCasts_S64x2x64x2_S128x128
theorem kron7_read : StableHlo.after hostOps0_7 W (Proc.devRef .tc main_v8) = kron7 (W (Proc.devRef .tc main_v7)) (W (Proc.devRef .tc main_cst)) := by
  unfold_abbrev_sides
  after_results
  rfl
theorem kron7_had (a : FVec Ideal S64x64 .f32) (b : FVec Ideal S2x2 .f32) (ha : ∀ i j : Fin 64, a (ix2 i j) = had 6 i j)
    (hb : ∀ i j : Fin 2, b (ix2 i j) = had 1 i j) (i j : Fin 128) : kron7 a b (ix2 i j) = had 7 i j := by
  have h : kron7 a b (ix2 i j) = a (ix2 ⟨i.val / 2, by omega⟩ ⟨j.val / 2, by omega⟩) * b (ix2 ⟨i.val % 2, by omega⟩ ⟨j.val % 2, by omega⟩) := by
    pointwise [kron7]
  rw [h, ha, hb]
  exact had_succ 6 i j
theorem kron7_keep : StableHlo.after hostOps0_7 W (Proc.devRef .tc main_cst) = W (Proc.devRef .tc main_cst) := by
  unfold_abbrev_sides
  after_results
theorem kron7_keep0 : StableHlo.after hostOps0_7 W (Proc.devRef .tc main_v0) = W (Proc.devRef .tc main_v0) := by
  unfold_abbrev_sides
  after_results

/-- The 2 by 2 matrix that the reference starts from. -/
theorem base_read : StableHlo.after hostOps0 W (Proc.devRef .tc main_cst) = (fun i => FloatOps.ofBits (F := Ideal) .f32 (lit0 (S2x2.rowMajor i)) : FVec Ideal S2x2 .f32) := by
  unfold_abbrev_sides
  after_results
  rfl
theorem one_read : StableHlo.after hostOps0 W (Proc.devRef .tc main_v1) = (broadcastInDim S1x1 ![] bcast_S_S1x1 (constant S_ .f32 0x3F800000#32) : FVec Ideal S1x1 .f32) := by
  unfold_abbrev_sides
  after_results
theorem x_read : StableHlo.after hostOps0 W (Proc.devRef .tc main_v0) = (extf .f32 (W (Proc.devRef .tc main_arg0) : FVec Ideal S8x2048x3584 .bf16) bitsLt_bf16_f32 : FVec Ideal S8x2048x3584 .f32) := by
  unfold_abbrev_sides
  after_results
theorem one_had (i j : Fin 1) : (broadcastInDim S1x1 ![] bcast_S_S1x1 (constant S_ .f32 0x3F800000#32) : FVec Ideal S1x1 .f32) (ix2 i j) = had 0 i j := by
  pointwise
  simp [had, sgn, Ideal.ofBits, Ideal.ieee]
theorem base_had (i j : Fin 2) : (fun i => FloatOps.ofBits (F := Ideal) .f32 (lit0 (S2x2.rowMajor i)) : FVec Ideal S2x2 .f32) (ix2 i j) = had 1 i j := by
  have e : ∀ i j : Fin 2, lit0 (S2x2.rowMajor (ix2 i j)) = bif sgn 1 i j then 0xBF800000#32 else 0x3F800000#32 := by decide
  show FloatOps.ofBits (F := Ideal) .f32 (lit0 (S2x2.rowMajor (ix2 i j))) = _
  rw [e, had]
  cases sgn 1 i j <;> simp [Ideal.ofBits, Ideal.ieee] <;> rw [← EReal.coe_mul] <;> norm_num

end Cert.ReferenceIdeal.Val
-- ==== Proof.RefStages.lean ====
module
public import proofs.«01_k».proof.Proof.Gen.ReferenceIdeal.Frame
public import proofs.«01_k».proof.Proof.Hadamard
public import Idealize.ShloMosaic.Lib.Pointwise
public import Idealize.ShloMosaic.Lib.Pipeline.ValueKit
public import Idealize.ShloMosaic.Lib.Claim

/-! The stages of the reference on the host: each result's array as a term over the arrays read, and that term entry by entry. -/

@[expose] public section
set_option maxRecDepth 16384
noncomputable section
namespace Cert.ReferenceIdeal.Val
open Idealize.ShloMosaic Idealize.ShloMosaic.TcCoe Idealize.ShloMosaic.Tactic Cert.ReferenceIdeal.Gen

variable (W : Valuation τ sig (Elt Ideal))

/-- The rotated activations. -/
def rotV (x : FVec Ideal S8x2048x3584 .f32) (h : FVec Ideal S128x128 .f32) : FVec Ideal S8x2048x3584 .f32 :=
  shapeCast S8x2048x3584 (Host.dotGeneral dot_S8x2048x28x128_S128x128_S8x2048x28x128_3_0_012_1_n_n (some .fp32)
    (shapeCast S8x2048x28x128 x shapeCasts_S8x2048x3584_S8x2048x28x128)
    (mulf h (broadcastInDim S128x128 ![] bcast_S_S128x128 (constant S_ .f32 0x3DB504F3#32 : FVec Ideal S_ .f32)))) shapeCasts_S8x2048x28x128_S8x2048x3584
/-- The greatest magnitude of each row. -/
def amaxV (v : FVec Ideal S8x2048x3584 .f32) : FVec Ideal S8x2048x1 .f32 :=
  broadcastInDim S8x2048x1 ![0, 1] bcast_S8x2048_S8x2048x1_0_1
    (Host.reduce FloatOps.maximumf (Host.absf v) (constant S_ .f32 0xFF800000#32 : FVec Ideal S_ .f32) reducesTo_S8x2048x3584_S8x2048_d2 h_S_)
/-- The greatest magnitude times the reciprocal of the greatest code. -/
def pV (a : FVec Ideal S8x2048x1 .f32) : FVec Ideal S8x2048x1 .f32 :=
  mulf a (broadcastInDim S8x2048x1 ![] bcast_S_S8x2048x1 (constant S_ .f32 0x3B124925#32 : FVec Ideal S_ .f32))
/-- The exponents from -125 to 128. -/
def tabV : FVec Ideal S254 .f32 :=
  sitofp .f32 (addi (broadcastInDim S254 ![] bcast_S_S254 (constantI S_ 32 4294967171#32)) (iotaInDim S254 32 0))
/-- Where `p` is below the power of two. -/
def ltV (p : FVec Ideal S8x2048x1 .f32) (k : FVec Ideal S254 .f32) : Vec Ideal S8x2048x254 .i1 :=
  cmpf .olt (broadcastInDim S8x2048x254 ![0, 1, 2] bcast_S8x2048x1_S8x2048x254_0_1_2 p)
    (broadcastInDim S8x2048x254 ![0, 1, 2] bcast_S1x1x254_S8x2048x254_0_1_2 (broadcastInDim S1x1x254 ![2] bcast_S254_S1x1x254_2
      (Host.powf (broadcastInDim S254 ![] bcast_S_S254 (constant S_ .f32 0x40000000#32 : FVec Ideal S_ .f32)) k)))
/-- The exponents of the powers above `p`, infinity in place of the others. -/
def candV (c : Vec Ideal S8x2048x254 .i1) (k : FVec Ideal S254 .f32) (z : FVec Ideal S_ .f32) : FVec Ideal S8x2048x254 .f32 :=
  select c (broadcastInDim S8x2048x254 ![2] bcast_S254_S8x2048x254_2 k) (broadcastInDim S8x2048x254 ![] bcast_S_S8x2048x254 z)
/-- The least exponent. -/
def leastV (c : FVec Ideal S8x2048x254 .f32) : FVec Ideal S8x2048x1 .f32 :=
  broadcastInDim S8x2048x1 ![0, 1] bcast_S8x2048_S8x2048x1_0_1
    (Host.reduce FloatOps.minimumf c (constant S_ .f32 0x7F800000#32 : FVec Ideal S_ .f32) reducesTo_S8x2048x254_S8x2048_d2 h_S_)
/-- Where `p` is below the normal numbers, or infinite. -/
def badV (p : FVec Ideal S8x2048x1 .f32) : Vec Ideal S8x2048x1 .i1 :=
  ori (cmpf .olt p (broadcastInDim S8x2048x1 ![] bcast_S_S8x2048x1 (constant S_ .f32 0x00800000#32 : FVec Ideal S_ .f32)))
    (cmpf .oeq p (broadcastInDim S8x2048x1 ![] bcast_S_S8x2048x1 (constant S_ .f32 0x7F800000#32 : FVec Ideal S_ .f32)))
/-- Where a row is zero. -/
def zeroV (a : FVec Ideal S8x2048x1 .f32) : Vec Ideal S8x2048x1 .i1 :=
  cmpf .oeq a (broadcastInDim S8x2048x1 ![] bcast_S_S8x2048x1 (constant S_ .f32 0x00000000#32 : FVec Ideal S_ .f32))
/-- The exponent, zero where the test holds. -/
def expV (c : Vec Ideal S8x2048x1 .i1) (z : IVec S_ 32) (e : FVec Ideal S8x2048x1 .f32) : FVec Ideal S8x2048x1 .f32 :=
  select c (broadcastInDim S8x2048x1 ![] bcast_S_S8x2048x1 (sitofp .f32 z : FVec Ideal S_ .f32)) e
/-- Two to the exponent. -/
def pow2V (e : FVec Ideal S8x2048x1 .f32) : FVec Ideal S8x2048x1 .f32 :=
  Host.powf (broadcastInDim S8x2048x1 ![] bcast_S_S8x2048x1 (constant S_ .f32 0x40000000#32 : FVec Ideal S_ .f32)) e
/-- The rotated activations scaled down. -/
def downV (v : FVec Ideal S8x2048x3584 .f32) (e : FVec Ideal S8x2048x1 .f32) : FVec Ideal S8x2048x3584 .f32 :=
  mulf v (broadcastInDim S8x2048x3584 ![0, 1, 2] bcast_S8x2048x1_S8x2048x3584_0_1_2 (pow2V (Host.negf e)))
/-- The clipping. -/
def clipV (v : FVec Ideal S8x2048x3584 .f32) (lo hi : FVec Ideal S_ .f32) : FVec Ideal S8x2048x3584 .f32 :=
  minimumf (broadcastInDim S8x2048x3584 ![] bcast_S_S8x2048x3584 hi) (maximumf (broadcastInDim S8x2048x3584 ![] bcast_S_S8x2048x3584 lo) v)

theorem read13 : StableHlo.after hostOps0_8 W (Proc.devRef .tc main_v13) = (rotV (W (Proc.devRef .tc main_v0)) (W (Proc.devRef .tc main_v8))) := by
  unfold_abbrev_sides
  after_results
  rfl
theorem read16 : StableHlo.after hostOps0_8 W (Proc.devRef .tc main_v16) = amaxV (rotV (W (Proc.devRef .tc main_v0)) (W (Proc.devRef .tc main_v8))) := by
  unfold_abbrev_sides
  after_results
  rfl
theorem read22 : StableHlo.after hostOps0_8 W (Proc.devRef .tc main_v22) = tabV := by
  unfold_abbrev_sides
  after_results
  rfl
theorem read28 : StableHlo.after hostOps0_8 W (Proc.devRef .tc main_v28) = ltV (pV (amaxV (rotV (W (Proc.devRef .tc main_v0)) (W (Proc.devRef .tc main_v8))))) tabV := by
  unfold_abbrev_sides
  after_results
  rfl
theorem readc5 : StableHlo.after hostOps0_8 W (Proc.devRef .tc main_cst_5) = (constant S_ .f32 0x7F800000#32 : FVec Ideal S_ .f32) := by
  unfold_abbrev_sides
  after_results
theorem read29 : StableHlo.after hostOps0_9 W (Proc.devRef .tc main_v29) = candV (W (Proc.devRef .tc main_v28)) (W (Proc.devRef .tc main_v22)) (W (Proc.devRef .tc main_cst_5)) := by
  unfold_abbrev_sides
  after_results
  rfl
theorem read31 : StableHlo.after hostOps0_10 W (Proc.devRef .tc main_v31) = leastV (W (Proc.devRef .tc main_v29)) := by
  unfold_abbrev_sides
  after_results
  rfl
theorem read18 : StableHlo.after hostOps0_8 W (Proc.devRef .tc main_v18) = pV (amaxV (rotV (W (Proc.devRef .tc main_v0)) (W (Proc.devRef .tc main_v8)))) := by
  unfold_abbrev_sides
  after_results
  rfl
theorem read36 : StableHlo.after hostOps0_10 W (Proc.devRef .tc main_v36) = badV (W (Proc.devRef .tc main_v18)) := by
  unfold_abbrev_sides
  after_results
  rfl
theorem readc9 : StableHlo.after hostOps0_10 W (Proc.devRef .tc main_c_9) = (constantI S_ 32 0#32 : IVec S_ 32) := by
  unfold_abbrev_sides
  after_results
theorem read37 : StableHlo.after hostOps0_11 W (Proc.devRef .tc main_v37) = expV (W (Proc.devRef .tc main_v36)) (W (Proc.devRef .tc main_c_9)) (W (Proc.devRef .tc main_v31)) := by
  unfold_abbrev_sides
  after_results
  rfl
theorem read39 : StableHlo.after hostOps0_12 W (Proc.devRef .tc main_v39) = zeroV (W (Proc.devRef .tc main_v16)) := by
  unfold_abbrev_sides
  after_results
  rfl
theorem readc11 : StableHlo.after hostOps0_12 W (Proc.devRef .tc main_c_11) = (constantI S_ 32 0#32 : IVec S_ 32) := by
  unfold_abbrev_sides
  after_results
theorem read40 : StableHlo.after hostOps0_13 W (Proc.devRef .tc main_v40) = expV (W (Proc.devRef .tc main_v39)) (W (Proc.devRef .tc main_c_11)) (W (Proc.devRef .tc main_v37)) := by
  unfold_abbrev_sides
  after_results
  rfl
theorem read42 : StableHlo.after hostOps0_14 W (Proc.devRef .tc main_v42) = pow2V (W (Proc.devRef .tc main_v40)) := by
  unfold_abbrev_sides
  after_results
  rfl
theorem read47 : StableHlo.after hostOps0_14 W (Proc.devRef .tc main_v47) = downV (W (Proc.devRef .tc main_v13)) (W (Proc.devRef .tc main_v40)) := by
  unfold_abbrev_sides
  after_results
  rfl
theorem readc14 : StableHlo.after hostOps0_14 W (Proc.devRef .tc main_cst_14) = (constant S_ .f32 0xC3E00000#32 : FVec Ideal S_ .f32) := by
  unfold_abbrev_sides
  after_results
theorem readc15 : StableHlo.after hostOps0_14 W (Proc.devRef .tc main_cst_15) = (constant S_ .f32 0x43E00000#32 : FVec Ideal S_ .f32) := by
  unfold_abbrev_sides
  after_results
theorem read48 : StableHlo.after hostOps0_15 W (Proc.devRef .tc main_v48) = clipV (W (Proc.devRef .tc main_v47)) (W (Proc.devRef .tc main_cst_14)) (W (Proc.devRef .tc main_cst_15)) := by
  unfold_abbrev_sides
  after_results
  rfl
theorem read49 : StableHlo.after hostOps0_16 W (Proc.devRef .tc main_v49) = (shapeCast S16384x3584 ((W (Proc.devRef .tc main_v48)) : FVec Ideal S8x2048x3584 .f32) shapeCasts_S8x2048x3584_S16384x3584 : FVec Ideal S16384x3584 .f32) := by
  unfold_abbrev_sides
  after_results
  rfl
theorem read50 : StableHlo.after hostOps0_16 W (Proc.devRef .tc main_v50) = (shapeCast S16384x1 ((W (Proc.devRef .tc main_v42)) : FVec Ideal S8x2048x1 .f32) shapeCasts_S8x2048x1_S16384x1 : FVec Ideal S16384x1 .f32) := by
  unfold_abbrev_sides
  after_results
  rfl
theorem read51 : StableHlo.after hostOps0_16 W (Proc.devRef .tc main_v51) = (shapeCast S1x18944 ((W (Proc.devRef .tc main_arg2)) : FVec Ideal S18944 .f32) shapeCasts_S18944_S1x18944 : FVec Ideal S1x18944 .f32) := by
  unfold_abbrev_sides
  after_results
  rfl
theorem keep9_v13 : StableHlo.after hostOps0_9 W (Proc.devRef .tc main_v13) = (W (Proc.devRef .tc main_v13)) := by
  unfold_abbrev_sides
  after_results
theorem keep9_v16 : StableHlo.after hostOps0_9 W (Proc.devRef .tc main_v16) = (W (Proc.devRef .tc main_v16)) := by
  unfold_abbrev_sides
  after_results
theorem keep10_v13 : StableHlo.after hostOps0_10 W (Proc.devRef .tc main_v13) = (W (Proc.devRef .tc main_v13)) := by
  unfold_abbrev_sides
  after_results
theorem keep9_v18 : StableHlo.after hostOps0_9 W (Proc.devRef .tc main_v18) = (W (Proc.devRef .tc main_v18)) := by
  unfold_abbrev_sides
  after_results
theorem keep10_v16 : StableHlo.after hostOps0_10 W (Proc.devRef .tc main_v16) = (W (Proc.devRef .tc main_v16)) := by
  unfold_abbrev_sides
  after_results
theorem keep11_v13 : StableHlo.after hostOps0_11 W (Proc.devRef .tc main_v13) = (W (Proc.devRef .tc main_v13)) := by
  unfold_abbrev_sides
  after_results
theorem keep11_v16 : StableHlo.after hostOps0_11 W (Proc.devRef .tc main_v16) = (W (Proc.devRef .tc main_v16)) := by
  unfold_abbrev_sides
  after_results
theorem keep12_v13 : StableHlo.after hostOps0_12 W (Proc.devRef .tc main_v13) = (W (Proc.devRef .tc main_v13)) := by
  unfold_abbrev_sides
  after_results
theorem keep12_v37 : StableHlo.after hostOps0_12 W (Proc.devRef .tc main_v37) = (W (Proc.devRef .tc main_v37)) := by
  unfold_abbrev_sides
  after_results
theorem keep13_v13 : StableHlo.after hostOps0_13 W (Proc.devRef .tc main_v13) = (W (Proc.devRef .tc main_v13)) := by
  unfold_abbrev_sides
  after_results
theorem keep15_v42 : StableHlo.after hostOps0_15 W (Proc.devRef .tc main_v42) = (W (Proc.devRef .tc main_v42)) := by
  unfold_abbrev_sides
  after_results
theorem keep16_v42 : StableHlo.after hostOps0_16 W (Proc.devRef .tc main_v42) = (W (Proc.devRef .tc main_v42)) := by
  unfold_abbrev_sides
  after_results

end Cert.ReferenceIdeal.Val
-- ==== Proof.RefArrays.lean ====
module
public import proofs.«01_k».proof.Proof.Gen.ReferenceIdeal.Frame
public import Idealize.ShloMosaic.Lib.Pointwise
public import Idealize.ShloMosaic.Lib.Pipeline.ValueKit
public import Idealize.ShloMosaic.Lib.Pipeline.Covers

/-! What the reference's product call leaves in its result arrays, element by element. -/

@[expose] public section
set_option maxRecDepth 16384
noncomputable section
namespace Cert.ReferenceIdeal.Val
open Idealize.ShloMosaic Idealize.ShloMosaic.TcCoe Idealize.ShloMosaic.Tactic Cert.ReferenceIdeal.Gen

variable (m : (ℓ : Loc nD τ sig) → Buf (Elt Ideal) ℓ)

/-- The product of the codes with the weights, each entry times its row's scale and its column's. -/
def prodR (C : FVec Ideal S16384x3584 .f32) (W : FVec Ideal S3584x18944 .fp8e4m3) (s : FVec Ideal S16384x1 .f32) (w : FVec Ideal S1x18944 .f32)
    (m : Fin 16384) (n : Fin 18944) : EReal :=
  (∑ k : Fin 3584, C (ix2 m k) * W (ix2 k n)) * s (ix2 m 0) * w (ix2 0 n)

theorem pay2_at (a : FVec Ideal S16384x3584 .f32) (b : FVec Ideal S3584x18944 .fp8e4m3) (s : FVec Ideal S16384x1 .f32) (w : FVec Ideal S1x18944 .f32)
    (r : Fin 16384) (l : Fin 18944) : (k0_pay2 (F := Ideal) a b s w (ix2 r l) : EReal) = prodR a b s w r l := by
  pointwise [k0_pay2, k0_pay1, prodR]

theorem pay1_at (a : FVec Ideal S16384x3584 .f32) (r : Fin 16384) (l : Fin 3584) : (k0_pay1 (F := Ideal) a (ix2 r l) : EReal) = a (ix2 r l) := by
  pointwise [k0_pay1]

theorem idx0 : ∀ t : Fin grid0.N, (win0_0.index t = ![0, 0] ∧ win0_1.index t = ![0, 0]) ∧ win0_2.index t = ![0, 0] ∧ win0_3.index t = ![0, 0] ∧ win0_4.index t = ![0, 0] ∧ win0_5.index t = ![0, 0] := by
  decide +kernel

theorem emb_0 (t : Fin grid0.N) (y : S16384x3584.Idx) : (win0_0.blk t).view.emb y = y := by
  funext a
  apply Fin.ext
  match a with
  | ⟨0, _⟩ => blk_simp [idx0 t]
  | ⟨1, _⟩ => blk_simp [idx0 t]
theorem emb_1 (t : Fin grid0.N) (y : S3584x18944.Idx) : (win0_1.blk t).view.emb y = y := by
  funext a
  apply Fin.ext
  match a with
  | ⟨0, _⟩ => blk_simp [idx0 t]
  | ⟨1, _⟩ => blk_simp [idx0 t]
theorem emb_2 (t : Fin grid0.N) (y : S16384x1.Idx) : (win0_2.blk t).view.emb y = y := by
  funext a
  apply Fin.ext
  match a with
  | ⟨0, _⟩ => blk_simp [idx0 t]
  | ⟨1, _⟩ => blk_simp [idx0 t]
theorem emb_3 (t : Fin grid0.N) (y : S1x18944.Idx) : (win0_3.blk t).view.emb y = y := by
  funext a
  apply Fin.ext
  match a with
  | ⟨0, _⟩ => blk_simp [idx0 t]
  | ⟨1, _⟩ => blk_simp [idx0 t]
theorem read_0 (t : Fin cfg0.N) (A : FVec Ideal S16384x3584 .f32) (y : S16384x3584.Idx) : (win0_0.blk t).view.read (Elt Ideal) A y = A y :=
  congrArg A (emb_0 t y)
theorem iblk_0 (c : Dev nD) (t : Fin cfg0.N) : iblk m c 0 t = (V m c main_v49 : FVec Ideal S16384x3584 .f32) := by
  unfold iblk
  generalize V m c = f
  exact funext fun y => read_0 t _ y
theorem read_1 (t : Fin cfg0.N) (A : FVec Ideal S3584x18944 .fp8e4m3) (y : S3584x18944.Idx) : (win0_1.blk t).view.read (Elt Ideal) A y = A y :=
  congrArg A (emb_1 t y)
theorem iblk_1 (c : Dev nD) (t : Fin cfg0.N) : iblk m c 1 t = (V m c main_arg1 : FVec Ideal S3584x18944 .fp8e4m3) := by
  unfold iblk
  generalize V m c = f
  exact funext fun y => read_1 t _ y
theorem read_2 (t : Fin cfg0.N) (A : FVec Ideal S16384x1 .f32) (y : S16384x1.Idx) : (win0_2.blk t).view.read (Elt Ideal) A y = A y :=
  congrArg A (emb_2 t y)
theorem iblk_2 (c : Dev nD) (t : Fin cfg0.N) : iblk m c 2 t = (V m c main_v50 : FVec Ideal S16384x1 .f32) := by
  unfold iblk
  generalize V m c = f
  exact funext fun y => read_2 t _ y
theorem read_3 (t : Fin cfg0.N) (A : FVec Ideal S1x18944 .f32) (y : S1x18944.Idx) : (win0_3.blk t).view.read (Elt Ideal) A y = A y :=
  congrArg A (emb_3 t y)
theorem iblk_3 (c : Dev nD) (t : Fin cfg0.N) : iblk m c 3 t = (V m c main_v51 : FVec Ideal S1x18944 .f32) := by
  unfold iblk
  generalize V m c = f
  exact funext fun y => read_3 t _ y

/-- The product's array. -/
theorem arr0_4 (c : Dev nD) : (dats m 0 c).arrAt 4 cfg0.N = fun i : S16384x18944.Idx =>
    prodR (V m c main_v49) (V m c main_arg1) (V m c main_v50) (V m c main_v51) (i 0) (i 1) := by
  refine (dats m 0 c).arrAt_eq_of_after_last 4 t0_0 (by decide +kernel) _ fun j => ?_
  blk_simp
  rw [after0_4]
  frame_out
  rw [iblk_0, iblk_1, iblk_2, iblk_3]
  generalize V m c = f
  obtain ⟨r, l, rfl⟩ : ∃ r l, j = ix2 (n0 := 16384) (n1 := 18944) r l := ⟨j 0, j 1, eq_ix2 (n0 := 16384) (n1 := 18944) j⟩
  exact pay2_at _ _ _ _ r l

/-- The codes' array. -/
theorem arr0_5 (c : Dev nD) : (dats m 0 c).arrAt 5 cfg0.N = (V m c main_v49 : FVec Ideal S16384x3584 .f32) := by
  refine (dats m 0 c).arrAt_eq_of_after_last 5 t0_0 (by decide +kernel) _ fun j => ?_
  blk_simp
  rw [after0_5]
  frame_out
  rw [iblk_0]
  generalize V m c = f
  obtain ⟨r, l, rfl⟩ : ∃ r l, j = ix2 (n0 := 16384) (n1 := 3584) r l := ⟨j 0, j 1, eq_ix2 (n0 := 16384) (n1 := 3584) j⟩
  exact pay1_at _ r l

end Cert.ReferenceIdeal.Val
-- ==== Proof.RefRun.lean ====
module
public import proofs.«01_k».proof.Proof.Gen.ReferenceIdeal.Frame
public import proofs.«01_k».proof.Proof.RefStages
public import proofs.«01_k».proof.Proof.RefArrays
public import Idealize.ShloMosaic.Lib.Pipeline.Covers
public import Idealize.ShloMosaic.Lib.Pointwise
public import Idealize.ShloMosaic.Lib.Pipeline.ValueKit
public import Idealize.ShloMosaic.Lib.Claim

/-! The reference's run: what its results hold, from its arguments. -/

@[expose] public section
set_option maxRecDepth 16384
noncomputable section
namespace Cert.ReferenceIdeal.Val
open Idealize.ShloMosaic Idealize.ShloMosaic.TcCoe Idealize.ShloMosaic.Tactic Cert.ReferenceIdeal.Gen

/-- The Hadamard matrix of order 128. -/
def hadR : FVec Ideal S128x128 .f32 :=
  let b : FVec Ideal S2x2 .f32 := fun i => FloatOps.ofBits (F := Ideal) .f32 (lit0 (S2x2.rowMajor i))
  kron7 (kron6 (kron5 (kron4 (kron3 (kron2 (kron1 (broadcastInDim S1x1 ![] bcast_S_S1x1 (constant S_ .f32 0x3F800000#32)) b) b) b) b) b) b) b
/-- The rotated activations. -/
def rotR (x : FVec Ideal S8x2048x3584 .bf16) : FVec Ideal S8x2048x3584 .f32 := rotV (extf .f32 x bitsLt_bf16_f32) hadR
/-- The exponents. -/
def expR (x : FVec Ideal S8x2048x3584 .bf16) : FVec Ideal S8x2048x1 .f32 :=
  expV (zeroV (amaxV (rotR x))) (constantI S_ 32 0#32) (expV (badV (pV (amaxV (rotR x)))) (constantI S_ 32 0#32)
    (leastV (candV (ltV (pV (amaxV (rotR x))) tabV) tabV (constant S_ .f32 0x7F800000#32))))
/-- The scales. -/
def scaleR (x : FVec Ideal S8x2048x3584 .bf16) : FVec Ideal S8x2048x1 .f32 := pow2V (expR x)
/-- The codes. -/
def codesR (x : FVec Ideal S8x2048x3584 .bf16) : FVec Ideal S8x2048x3584 .f32 :=
  clipV (downV (rotR x) (expR x)) (constant S_ .f32 0xC3E00000#32) (constant S_ .f32 0x43E00000#32)
/-- The layer's output. -/
def outR (x : FVec Ideal S8x2048x3584 .bf16) (w : FVec Ideal S3584x18944 .fp8e4m3) (s : FVec Ideal S18944 .f32) : FVec Ideal S8x2048x18944 .bf16 :=
  fun i => (∑ k : Fin 3584, codesR x (ix3 (i 0) (i 1) k) * w (ix2 k (i 2))) * scaleR x (ix3 (i 0) (i 1) 0) * s (ix1 (i 2))

variable (m : (ℓ : Loc nD τ sig) → Buf (Elt Ideal) ℓ) (ρ : Dev nD → PrngReg)

/-- The argument x. -/
abbrev ax (c : Dev nD) : FVec Ideal S8x2048x3584 .bf16 := m ((c.tc : Thread nD τ).loc main_arg0)
/-- The argument of weights. -/
abbrev aw (c : Dev nD) : FVec Ideal S3584x18944 .fp8e4m3 := m ((c.tc : Thread nD τ).loc main_arg1)
/-- The argument of weight scales. -/
abbrev asc (c : Dev nD) : FVec Ideal S18944 .f32 := m ((c.tc : Thread nD τ).loc main_arg2)

/-- The valuations between the stages. -/
def U0 (c : Dev nD) : Valuation τ sig (Elt Ideal) := fun b => m (c, b)
def U1 (c : Dev nD) : Valuation τ sig (Elt Ideal) := StableHlo.after hostOps0 (U0 m c)
def U2 (c : Dev nD) : Valuation τ sig (Elt Ideal) := StableHlo.after hostOps0_1 (U1 m c)
def U3 (c : Dev nD) : Valuation τ sig (Elt Ideal) := StableHlo.after hostOps0_2 (U2 m c)
def U4 (c : Dev nD) : Valuation τ sig (Elt Ideal) := StableHlo.after hostOps0_3 (U3 m c)
def U5 (c : Dev nD) : Valuation τ sig (Elt Ideal) := StableHlo.after hostOps0_4 (U4 m c)
def U6 (c : Dev nD) : Valuation τ sig (Elt Ideal) := StableHlo.after hostOps0_5 (U5 m c)
def U7 (c : Dev nD) : Valuation τ sig (Elt Ideal) := StableHlo.after hostOps0_6 (U6 m c)
def U8 (c : Dev nD) : Valuation τ sig (Elt Ideal) := StableHlo.after hostOps0_7 (U7 m c)
def U9 (c : Dev nD) : Valuation τ sig (Elt Ideal) := StableHlo.after hostOps0_8 (U8 m c)
def U10 (c : Dev nD) : Valuation τ sig (Elt Ideal) := StableHlo.after hostOps0_9 (U9 m c)
def U11 (c : Dev nD) : Valuation τ sig (Elt Ideal) := StableHlo.after hostOps0_10 (U10 m c)
def U12 (c : Dev nD) : Valuation τ sig (Elt Ideal) := StableHlo.after hostOps0_11 (U11 m c)
def U13 (c : Dev nD) : Valuation τ sig (Elt Ideal) := StableHlo.after hostOps0_12 (U12 m c)
def U14 (c : Dev nD) : Valuation τ sig (Elt Ideal) := StableHlo.after hostOps0_13 (U13 m c)
def U15 (c : Dev nD) : Valuation τ sig (Elt Ideal) := StableHlo.after hostOps0_14 (U14 m c)
def U16 (c : Dev nD) : Valuation τ sig (Elt Ideal) := StableHlo.after hostOps0_15 (U15 m c)
def U17 (c : Dev nD) : Valuation τ sig (Elt Ideal) := StableHlo.after hostOps0_16 (U16 m c)
theorem V0_eq (c : Dev nD) : V0 m c = U17 m c := by
  show StableHlo.after (hostOps0 ++ (hostOps0_1 ++ (hostOps0_2 ++ (hostOps0_3 ++ (hostOps0_4 ++ (hostOps0_5 ++ (hostOps0_6 ++ (hostOps0_7 ++ (hostOps0_8 ++ (hostOps0_9 ++ (hostOps0_10 ++ (hostOps0_11 ++ (hostOps0_12 ++ (hostOps0_13 ++ (hostOps0_14 ++ (hostOps0_15 ++ (hostOps0_16 ++ []))))))))))))))))) _ = _
  iterate 17 rw [StableHlo.after_append]
  rfl
theorem u1c (c : Dev nD) : U1 m c (Proc.devRef .tc main_cst) = (fun i => FloatOps.ofBits (F := Ideal) .f32 (lit0 (S2x2.rowMajor i)) : FVec Ideal S2x2 .f32) := by
  exact base_read _
theorem u1x (c : Dev nD) : U1 m c (Proc.devRef .tc main_v0) = (extf .f32 (ax m c) bitsLt_bf16_f32 : FVec Ideal S8x2048x3584 .f32) := by
  exact x_read _
theorem u2c (c : Dev nD) : U2 m c (Proc.devRef .tc main_cst) = (fun i => FloatOps.ofBits (F := Ideal) .f32 (lit0 (S2x2.rowMajor i)) : FVec Ideal S2x2 .f32) := by
  exact (kron1_keep _).trans (u1c m c)
theorem u2x (c : Dev nD) : U2 m c (Proc.devRef .tc main_v0) = (extf .f32 (ax m c) bitsLt_bf16_f32 : FVec Ideal S8x2048x3584 .f32) := by
  exact (kron1_keep0 _).trans (u1x m c)
theorem u3c (c : Dev nD) : U3 m c (Proc.devRef .tc main_cst) = (fun i => FloatOps.ofBits (F := Ideal) .f32 (lit0 (S2x2.rowMajor i)) : FVec Ideal S2x2 .f32) := by
  exact (kron2_keep _).trans (u2c m c)
theorem u3x (c : Dev nD) : U3 m c (Proc.devRef .tc main_v0) = (extf .f32 (ax m c) bitsLt_bf16_f32 : FVec Ideal S8x2048x3584 .f32) := by
  exact (kron2_keep0 _).trans (u2x m c)
theorem u4c (c : Dev nD) : U4 m c (Proc.devRef .tc main_cst) = (fun i => FloatOps.ofBits (F := Ideal) .f32 (lit0 (S2x2.rowMajor i)) : FVec Ideal S2x2 .f32) := by
  exact (kron3_keep _).trans (u3c m c)
theorem u4x (c : Dev nD) : U4 m c (Proc.devRef .tc main_v0) = (extf .f32 (ax m c) bitsLt_bf16_f32 : FVec Ideal S8x2048x3584 .f32) := by
  exact (kron3_keep0 _).trans (u3x m c)
theorem u5c (c : Dev nD) : U5 m c (Proc.devRef .tc main_cst) = (fun i => FloatOps.ofBits (F := Ideal) .f32 (lit0 (S2x2.rowMajor i)) : FVec Ideal S2x2 .f32) := by
  exact (kron4_keep _).trans (u4c m c)
theorem u5x (c : Dev nD) : U5 m c (Proc.devRef .tc main_v0) = (extf .f32 (ax m c) bitsLt_bf16_f32 : FVec Ideal S8x2048x3584 .f32) := by
  exact (kron4_keep0 _).trans (u4x m c)
theorem u6c (c : Dev nD) : U6 m c (Proc.devRef .tc main_cst) = (fun i => FloatOps.ofBits (F := Ideal) .f32 (lit0 (S2x2.rowMajor i)) : FVec Ideal S2x2 .f32) := by
  exact (kron5_keep _).trans (u5c m c)
theorem u6x (c : Dev nD) : U6 m c (Proc.devRef .tc main_v0) = (extf .f32 (ax m c) bitsLt_bf16_f32 : FVec Ideal S8x2048x3584 .f32) := by
  exact (kron5_keep0 _).trans (u5x m c)
theorem u7c (c : Dev nD) : U7 m c (Proc.devRef .tc main_cst) = (fun i => FloatOps.ofBits (F := Ideal) .f32 (lit0 (S2x2.rowMajor i)) : FVec Ideal S2x2 .f32) := by
  exact (kron6_keep _).trans (u6c m c)
theorem u7x (c : Dev nD) : U7 m c (Proc.devRef .tc main_v0) = (extf .f32 (ax m c) bitsLt_bf16_f32 : FVec Ideal S8x2048x3584 .f32) := by
  exact (kron6_keep0 _).trans (u6x m c)
theorem u8c (c : Dev nD) : U8 m c (Proc.devRef .tc main_cst) = (fun i => FloatOps.ofBits (F := Ideal) .f32 (lit0 (S2x2.rowMajor i)) : FVec Ideal S2x2 .f32) := by
  exact (kron7_keep _).trans (u7c m c)
theorem u8x (c : Dev nD) : U8 m c (Proc.devRef .tc main_v0) = (extf .f32 (ax m c) bitsLt_bf16_f32 : FVec Ideal S8x2048x3584 .f32) := by
  exact (kron7_keep0 _).trans (u7x m c)
theorem u1h (c : Dev nD) : U1 m c (Proc.devRef .tc main_v1) = (broadcastInDim S1x1 ![] bcast_S_S1x1 (constant S_ .f32 0x3F800000#32) : FVec Ideal S1x1 .f32) := by
  exact one_read _
theorem u2h (c : Dev nD) : U2 m c (Proc.devRef .tc main_v2) = kron1 ((broadcastInDim S1x1 ![] bcast_S_S1x1 (constant S_ .f32 0x3F800000#32) : FVec Ideal S1x1 .f32)) (fun i => FloatOps.ofBits (F := Ideal) .f32 (lit0 (S2x2.rowMajor i)) : FVec Ideal S2x2 .f32) := by
  exact (kron1_read _).trans (congrArg₂ kron1 (u1h m c) (u1c m c))
theorem u3h (c : Dev nD) : U3 m c (Proc.devRef .tc main_v3) = kron2 (kron1 ((broadcastInDim S1x1 ![] bcast_S_S1x1 (constant S_ .f32 0x3F800000#32) : FVec Ideal S1x1 .f32)) (fun i => FloatOps.ofBits (F := Ideal) .f32 (lit0 (S2x2.rowMajor i)) : FVec Ideal S2x2 .f32)) (fun i => FloatOps.ofBits (F := Ideal) .f32 (lit0 (S2x2.rowMajor i)) : FVec Ideal S2x2 .f32) := by
  exact (kron2_read _).trans (congrArg₂ kron2 (u2h m c) (u2c m c))
theorem u4h (c : Dev nD) : U4 m c (Proc.devRef .tc main_v4) = kron3 (kron2 (kron1 ((broadcastInDim S1x1 ![] bcast_S_S1x1 (constant S_ .f32 0x3F800000#32) : FVec Ideal S1x1 .f32)) (fun i => FloatOps.ofBits (F := Ideal) .f32 (lit0 (S2x2.rowMajor i)) : FVec Ideal S2x2 .f32)) (fun i => FloatOps.ofBits (F := Ideal) .f32 (lit0 (S2x2.rowMajor i)) : FVec Ideal S2x2 .f32)) (fun i => FloatOps.ofBits (F := Ideal) .f32 (lit0 (S2x2.rowMajor i)) : FVec Ideal S2x2 .f32) := by
  exact (kron3_read _).trans (congrArg₂ kron3 (u3h m c) (u3c m c))
theorem u5h (c : Dev nD) : U5 m c (Proc.devRef .tc main_v5) = kron4 (kron3 (kron2 (kron1 ((broadcastInDim S1x1 ![] bcast_S_S1x1 (constant S_ .f32 0x3F800000#32) : FVec Ideal S1x1 .f32)) (fun i => FloatOps.ofBits (F := Ideal) .f32 (lit0 (S2x2.rowMajor i)) : FVec Ideal S2x2 .f32)) (fun i => FloatOps.ofBits (F := Ideal) .f32 (lit0 (S2x2.rowMajor i)) : FVec Ideal S2x2 .f32)) (fun i => FloatOps.ofBits (F := Ideal) .f32 (lit0 (S2x2.rowMajor i)) : FVec Ideal S2x2 .f32)) (fun i => FloatOps.ofBits (F := Ideal) .f32 (lit0 (S2x2.rowMajor i)) : FVec Ideal S2x2 .f32) := by
  exact (kron4_read _).trans (congrArg₂ kron4 (u4h m c) (u4c m c))
theorem u6h (c : Dev nD) : U6 m c (Proc.devRef .tc main_v6) = kron5 (kron4 (kron3 (kron2 (kron1 ((broadcastInDim S1x1 ![] bcast_S_S1x1 (constant S_ .f32 0x3F800000#32) : FVec Ideal S1x1 .f32)) (fun i => FloatOps.ofBits (F := Ideal) .f32 (lit0 (S2x2.rowMajor i)) : FVec Ideal S2x2 .f32)) (fun i => FloatOps.ofBits (F := Ideal) .f32 (lit0 (S2x2.rowMajor i)) : FVec Ideal S2x2 .f32)) (fun i => FloatOps.ofBits (F := Ideal) .f32 (lit0 (S2x2.rowMajor i)) : FVec Ideal S2x2 .f32)) (fun i => FloatOps.ofBits (F := Ideal) .f32 (lit0 (S2x2.rowMajor i)) : FVec Ideal S2x2 .f32)) (fun i => FloatOps.ofBits (F := Ideal) .f32 (lit0 (S2x2.rowMajor i)) : FVec Ideal S2x2 .f32) := by
  exact (kron5_read _).trans (congrArg₂ kron5 (u5h m c) (u5c m c))
theorem u7h (c : Dev nD) : U7 m c (Proc.devRef .tc main_v7) = kron6 (kron5 (kron4 (kron3 (kron2 (kron1 ((broadcastInDim S1x1 ![] bcast_S_S1x1 (constant S_ .f32 0x3F800000#32) : FVec Ideal S1x1 .f32)) (fun i => FloatOps.ofBits (F := Ideal) .f32 (lit0 (S2x2.rowMajor i)) : FVec Ideal S2x2 .f32)) (fun i => FloatOps.ofBits (F := Ideal) .f32 (lit0 (S2x2.rowMajor i)) : FVec Ideal S2x2 .f32)) (fun i => FloatOps.ofBits (F := Ideal) .f32 (lit0 (S2x2.rowMajor i)) : FVec Ideal S2x2 .f32)) (fun i => FloatOps.ofBits (F := Ideal) .f32 (lit0 (S2x2.rowMajor i)) : FVec Ideal S2x2 .f32)) (fun i => FloatOps.ofBits (F := Ideal) .f32 (lit0 (S2x2.rowMajor i)) : FVec Ideal S2x2 .f32)) (fun i => FloatOps.ofBits (F := Ideal) .f32 (lit0 (S2x2.rowMajor i)) : FVec Ideal S2x2 .f32) := by
  exact (kron6_read _).trans (congrArg₂ kron6 (u6h m c) (u6c m c))
theorem u8h (c : Dev nD) : U8 m c (Proc.devRef .tc main_v8) = hadR := by
  exact (kron7_read _).trans (congrArg₂ kron7 (u7h m c) (u7c m c))
theorem u9_13 (c : Dev nD) : U9 m c (Proc.devRef .tc main_v13) = rotR (ax m c) := by
  exact (read13 _).trans (congrArg₂ rotV (u8x m c) (u8h m c))
theorem u9_16 (c : Dev nD) : U9 m c (Proc.devRef .tc main_v16) = amaxV (rotR (ax m c)) := by
  exact (read16 _).trans (congrArg amaxV (congrArg₂ rotV (u8x m c) (u8h m c)))
theorem u9_28 (c : Dev nD) : U9 m c (Proc.devRef .tc main_v28) = ltV (pV (amaxV (rotR (ax m c)))) tabV := by
  exact (read28 _).trans (congrArg (fun v => ltV (pV (amaxV v)) tabV) (congrArg₂ rotV (u8x m c) (u8h m c)))
theorem u10_29 (c : Dev nD) : U10 m c (Proc.devRef .tc main_v29) = candV (ltV (pV (amaxV (rotR (ax m c)))) tabV) tabV (constant S_ .f32 0x7F800000#32) := by
  refine (read29 _).trans ?_
  rw [u9_28, show U9 m c (Proc.devRef .tc main_v22) = tabV from read22 _, show U9 m c (Proc.devRef .tc main_cst_5) = _ from readc5 _]
theorem u10_13 (c : Dev nD) : U10 m c (Proc.devRef .tc main_v13) = rotR (ax m c) := by
  exact (keep9_v13 _).trans (u9_13 m c)
theorem u10_16 (c : Dev nD) : U10 m c (Proc.devRef .tc main_v16) = amaxV (rotR (ax m c)) := by
  exact (keep9_v16 _).trans (u9_16 m c)
theorem u10_18 (c : Dev nD) : U10 m c (Proc.devRef .tc main_v18) = pV (amaxV (rotR (ax m c))) := by
  exact (keep9_v18 _).trans ((read18 _).trans (congrArg (fun v => pV (amaxV v)) (congrArg₂ rotV (u8x m c) (u8h m c))))
theorem u11_13 (c : Dev nD) : U11 m c (Proc.devRef .tc main_v13) = rotR (ax m c) := by
  exact (keep10_v13 _).trans (u10_13 m c)
theorem u11_16 (c : Dev nD) : U11 m c (Proc.devRef .tc main_v16) = amaxV (rotR (ax m c)) := by
  exact (keep10_v16 _).trans (u10_16 m c)
theorem u12_13 (c : Dev nD) : U12 m c (Proc.devRef .tc main_v13) = rotR (ax m c) := by
  exact (keep11_v13 _).trans (u11_13 m c)
theorem u12_16 (c : Dev nD) : U12 m c (Proc.devRef .tc main_v16) = amaxV (rotR (ax m c)) := by
  exact (keep11_v16 _).trans (u11_16 m c)
theorem u12_37 (c : Dev nD) : U12 m c (Proc.devRef .tc main_v37) = expV (badV (pV (amaxV (rotR (ax m c))))) (constantI S_ 32 0#32)
    (leastV (candV (ltV (pV (amaxV (rotR (ax m c)))) tabV) tabV (constant S_ .f32 0x7F800000#32))) := by
  refine (read37 _).trans ?_
  rw [show U11 m c (Proc.devRef .tc main_v36) = _ from read36 _, show U11 m c (Proc.devRef .tc main_c_9) = _ from readc9 _, show U11 m c (Proc.devRef .tc main_v31) = _ from read31 _, u10_29, u10_18]
theorem u13_13 (c : Dev nD) : U13 m c (Proc.devRef .tc main_v13) = rotR (ax m c) := by
  exact (keep12_v13 _).trans (u12_13 m c)
theorem u13_37 (c : Dev nD) : U13 m c (Proc.devRef .tc main_v37) = U12 m c (Proc.devRef .tc main_v37) := by
  exact keep12_v37 _
theorem u14_40 (c : Dev nD) : U14 m c (Proc.devRef .tc main_v40) = expR (ax m c) := by
  refine (read40 _).trans ?_
  rw [show U13 m c (Proc.devRef .tc main_v39) = _ from read39 _, show U13 m c (Proc.devRef .tc main_c_11) = _ from readc11 _, u13_37, u12_37, u12_16]
  rfl
theorem u14_13 (c : Dev nD) : U14 m c (Proc.devRef .tc main_v13) = rotR (ax m c) := by
  exact (keep13_v13 _).trans (u13_13 m c)
theorem u15_42 (c : Dev nD) : U15 m c (Proc.devRef .tc main_v42) = scaleR (ax m c) := by
  exact (read42 _).trans (congrArg pow2V (u14_40 m c))
theorem u16_48 (c : Dev nD) : U16 m c (Proc.devRef .tc main_v48) = codesR (ax m c) := by
  refine (read48 _).trans ?_
  rw [show U15 m c (Proc.devRef .tc main_v47) = _ from read47 _, show U15 m c (Proc.devRef .tc main_cst_14) = _ from readc14 _, show U15 m c (Proc.devRef .tc main_cst_15) = _ from readc15 _, u14_13, u14_40]
  rfl
theorem u16_42 (c : Dev nD) : U16 m c (Proc.devRef .tc main_v42) = scaleR (ax m c) := by
  exact (keep15_v42 _).trans (u15_42 m c)
theorem u17_42 (c : Dev nD) : U17 m c (Proc.devRef .tc main_v42) = scaleR (ax m c) := by
  exact (keep16_v42 _).trans (u16_42 m c)
theorem V_42 (c : Dev nD) : V m c main_v42 = scaleR (ax m c) := (congrFun (V0_eq m c) _).trans (u17_42 m c)
theorem V_49 (c : Dev nD) : V m c main_v49 = (shapeCast S16384x3584 (codesR (ax m c)) shapeCasts_S8x2048x3584_S16384x3584 : FVec Ideal S16384x3584 .f32) := by
  refine (congrFun (V0_eq m c) _).trans ((read49 _).trans ?_)
  rw [u16_48]
theorem V_50 (c : Dev nD) : V m c main_v50 = (shapeCast S16384x1 (scaleR (ax m c)) shapeCasts_S8x2048x1_S16384x1 : FVec Ideal S16384x1 .f32) := by
  refine (congrFun (V0_eq m c) _).trans ((read50 _).trans ?_)
  rw [u16_42]
theorem V_51 (c : Dev nD) : V m c main_v51 = (shapeCast S1x18944 (asc m c) shapeCasts_S18944_S1x18944 : FVec Ideal S1x18944 .f32) := by
  have h := V_main_arg2 m c
  refine (congrFun (V0_eq m c) _).trans ((read51 _).trans ?_)
  have e : U17 m c (Proc.devRef .tc main_arg2) = U16 m c (Proc.devRef .tc main_arg2) := by
    show StableHlo.after hostOps0_16 _ _ = _
    unfold_abbrev_sides
    after_results
  rw [← e, ← V0_eq]
  exact congrArg (fun v => (shapeCast S1x18944 v shapeCasts_S18944_S1x18944 : FVec Ideal S1x18944 .f32)) h

theorem T_42 (c : Dev nD) : Pipeline.afterTail₀ cfgs (dats m) 0 (V0 m) [hostOps1] c main_v42 = scaleR (ax m c) := by
  have e : ∀ U : Valuation τ sig (Elt Ideal), StableHlo.after hostOps1 U (Proc.devRef .tc main_v42) = U (Proc.devRef .tc main_v42) := fun U => by
    unfold_abbrev_sides
    after_results
  refine (e _).trans ((Pipeline.withArrays_of_ne _ c (V0 m c) _ main_v42 (by exact (by decide : ∀ w, Pipeline.arrRef spec0 w ≠ main_v42))).trans (V_42 m c))

theorem arr_inj : Function.Injective (Pipeline.arrRef spec0) := by decide

theorem T_53 (c : Dev nD) : Pipeline.afterTail₀ cfgs (dats m) 0 (V0 m) [hostOps1] c main_v53 = outR (ax m c) (aw m c) (asc m c) := by
  have e : ∀ U : Valuation τ sig (Elt Ideal), StableHlo.after hostOps1 U (Proc.devRef .tc main_v53)
      = (shapeCast S8x2048x18944 (U (Proc.devRef .tc main_v52_0) : FVec Ideal S16384x18944 .bf16) shapeCasts_S16384x18944_S8x2048x18944 : FVec Ideal S8x2048x18944 .bf16) := fun U => by
    unfold_abbrev_sides
    after_results
    rfl
  have h := (Pipeline.withArrays_arr spec0 arr_inj c (V0 m c) (fun w => (dats m 0 c).arrAt w cfg0.N) 4).trans (arr0_4 m c)
  rw [V_49, V_50, V_51, V_main_arg1] at h
  refine (e _).trans ?_
  rw [show Pipeline.withArrays (cfgs 0).spec c (V0 m c) (fun w => (dats m 0 c).arrAt w (cfgs 0).N) (Proc.devRef .tc main_v52_0) = _ from h]
  funext i
  obtain ⟨b, t, l, rfl⟩ : ∃ b t l, i = ix3 (n0 := 8) (n1 := 2048) (n2 := 18944) b t l := ⟨i 0, i 1, i 2, eq_ix3 i⟩
  pointwise [prodR, outR]
  have e1 : (b.val * 2048 + t.val) / 2048 = b.val := by omega
  have e2 : (b.val * 2048 + t.val) % 2048 = t.val := by omega
  simp only [e1, e2, Fin.eta]

theorem T_54 (c : Dev nD) : Pipeline.afterTail₀ cfgs (dats m) 0 (V0 m) [hostOps1] c main_v54 = codesR (ax m c) := by
  have e : ∀ U : Valuation τ sig (Elt Ideal), StableHlo.after hostOps1 U (Proc.devRef .tc main_v54)
      = (shapeCast S8x2048x3584 (U (Proc.devRef .tc main_v52_1) : FVec Ideal S16384x3584 .fp8e4m3) shapeCasts_S16384x3584_S8x2048x3584 : FVec Ideal S8x2048x3584 .fp8e4m3) := fun U => by
    unfold_abbrev_sides
    after_results
    rfl
  have h := (Pipeline.withArrays_arr spec0 arr_inj c (V0 m c) (fun w => (dats m 0 c).arrAt w cfg0.N) 5).trans (arr0_5 m c)
  rw [V_49] at h
  refine (e _).trans ?_
  rw [show Pipeline.withArrays (cfgs 0).spec c (V0 m c) (fun w => (dats m 0 c).arrAt w (cfgs 0).N) (Proc.devRef .tc main_v52_1) = _ from h]
  funext i
  obtain ⟨b, t, l, rfl⟩ : ∃ b t l, i = ix3 (n0 := 8) (n1 := 2048) (n2 := 3584) b t l := ⟨i 0, i 1, i 2, eq_ix3 i⟩
  pointwise

/-- THE REFERENCE'S RUN at exact arithmetic: from any memory its results end as the output, the codes and the scales of
    its arguments, which it leaves as it found them. -/
theorem run : θ_run (defs (F := Ideal)) (onTc (τ := τ) (main (F := Ideal))) ⟨m, fun _ => 0, ρ⟩ (fun r => ∀ c : Dev nD,
      r.2.mem ((c.tc : Thread nD τ).loc main_v53) = outR (ax m c) (aw m c) (asc m c)
      ∧ r.2.mem ((c.tc : Thread nD τ).loc main_v54) = codesR (ax m c)
      ∧ r.2.mem ((c.tc : Thread nD τ).loc main_v42) = scaleR (ax m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v53 (Pipeline.mem_restRefs_of main_v53 (by decide) (by decide))).trans (T_53 m c),
     ((h c).2 main_v54 (Pipeline.mem_restRefs_of main_v54 (by decide) (by decide))).trans (T_54 m c),
     ((h c).2 main_v42 (Pipeline.mem_restRefs_of main_v42 (by decide) (by decide))).trans (T_42 m c),
     ((h c).2 main_arg0 (Pipeline.mem_restRefs_of main_arg0 (by decide) (by decide))).trans (W_main_arg0 m (dats m) c),
     ((h c).1 1).trans (((dats m 0 c).arrAt_in 1 rfl _).trans ((A_eq m c 1).trans (V_main_arg1 m c))),
     ((h c).2 main_arg2 (Pipeline.mem_restRefs_of main_arg2 (by decide) (by decide))).trans (W_main_arg2 m (dats m) c)⟩) (run_main m ρ)

end Cert.ReferenceIdeal.Val
-- ==== Proof.RefEntries.lean ====
module
public import proofs.«01_k».proof.Proof.Gen.ReferenceIdeal.Frame
public import proofs.«01_k».proof.Proof.RefStages
public import Idealize.ShloMosaic.Lib.Pointwise
public import Idealize.ShloMosaic.Lib.Pipeline.ValueKit
public import Idealize.ShloMosaic.Lib.Claim

/-! The stages of the reference on the host, entry by entry. -/

@[expose] public section
set_option maxRecDepth 16384
noncomputable section
namespace Cert.ReferenceIdeal.Val
open Idealize.ShloMosaic Idealize.ShloMosaic.TcCoe Idealize.ShloMosaic.Tactic Cert.ReferenceIdeal.Gen

theorem rotV_at (x : FVec Ideal S8x2048x3584 .f32) (h : FVec Ideal S128x128 .f32) (b : Fin 8) (t : Fin 2048) (j : Fin 3584) :
    rotV x h (ix3 b t j) = ∑ k : Fin 128, x (ix3 b t ⟨j.val / 128 * 128 + k.val, by omega⟩) * (h (ix2 k ⟨j.val % 128, by omega⟩) * Ideal.ofBits .f32 0x3DB504F3#32) := by
  pointwise [rotV]
theorem amaxV_at (v : FVec Ideal S8x2048x3584 .f32) (b : Fin 8) (t : Fin 2048) :
    amaxV v (ix3 b t 0) = Finset.univ.fold max (Ideal.ofBits .f32 0xFF800000#32) (fun j : Fin 3584 => FloatOps.absf (F := Ideal) (φ := .f32) (v (ix3 b t j))) := by
  pointwise [amaxV]
theorem pV_at (a : FVec Ideal S8x2048x1 .f32) (b : Fin 8) (t : Fin 2048) : pV a (ix3 b t 0) = a (ix3 b t 0) * Ideal.ofBits .f32 0x3B124925#32 := by
  pointwise [pV]
theorem tabV_at (k : Fin 254) : tabV (ix1 k) = FloatOps.sitofp (F := Ideal) .f32 (IntOp.addi 4294967171#32 (BitVec.ofNat 32 k.val)) := by
  pointwise [tabV]
theorem ltV_at (p : FVec Ideal S8x2048x1 .f32) (e : FVec Ideal S254 .f32) (b : Fin 8) (t : Fin 2048) (k : Fin 254) :
    ltV p e (ix3 b t k) = BitVec.ofBool (decide (p (ix3 b t 0) < Ideal.pow (Ideal.ofBits .f32 0x40000000#32) (e (ix1 k)))) := by
  pointwise [ltV]
theorem candV_at (c : Vec Ideal S8x2048x254 .i1) (e : FVec Ideal S254 .f32) (z : FVec Ideal S_ .f32) (b : Fin 8) (t : Fin 2048) (k : Fin 254) :
    candV c e z (ix3 b t k) = Scalar.select (c (ix3 b t k)) (e (ix1 k)) (z ix0) := by
  pointwise [candV]
theorem leastV_at (c : FVec Ideal S8x2048x254 .f32) (b : Fin 8) (t : Fin 2048) :
    leastV c (ix3 b t 0) = Finset.univ.fold min (Ideal.ofBits .f32 0x7F800000#32) (fun k : Fin 254 => c (ix3 b t k)) := by
  pointwise [leastV]
theorem badV_at (p : FVec Ideal S8x2048x1 .f32) (b : Fin 8) (t : Fin 2048) :
    badV p (ix3 b t 0) = IntOp.ori (BitVec.ofBool (decide (p (ix3 b t 0) < Ideal.ofBits .f32 0x00800000#32)))
      (BitVec.ofBool (decide (p (ix3 b t 0) = Ideal.ofBits .f32 0x7F800000#32))) := by
  pointwise [badV]
theorem zeroV_at (a : FVec Ideal S8x2048x1 .f32) (b : Fin 8) (t : Fin 2048) :
    zeroV a (ix3 b t 0) = BitVec.ofBool (decide (a (ix3 b t 0) = Ideal.ofBits .f32 0x00000000#32)) := by
  pointwise [zeroV]
theorem expV_at (c : Vec Ideal S8x2048x1 .i1) (z : IVec S_ 32) (e : FVec Ideal S8x2048x1 .f32) (b : Fin 8) (t : Fin 2048) :
    expV c z e (ix3 b t 0) = Scalar.select (c (ix3 b t 0)) (FloatOps.sitofp (F := Ideal) .f32 (z ix0)) (e (ix3 b t 0)) := by
  pointwise [expV]
theorem pow2V_at (e : FVec Ideal S8x2048x1 .f32) (b : Fin 8) (t : Fin 2048) :
    pow2V e (ix3 b t 0) = Ideal.pow (Ideal.ofBits .f32 0x40000000#32) (e (ix3 b t 0)) := by
  pointwise [pow2V]
theorem downV_at (v : FVec Ideal S8x2048x3584 .f32) (e : FVec Ideal S8x2048x1 .f32) (b : Fin 8) (t : Fin 2048) (j : Fin 3584) :
    downV v e (ix3 b t j) = v (ix3 b t j) * Ideal.pow (Ideal.ofBits .f32 0x40000000#32) (-(e (ix3 b t 0))) := by
  pointwise [downV, pow2V]
theorem clipV_at (v : FVec Ideal S8x2048x3584 .f32) (lo hi : FVec Ideal S_ .f32) (b : Fin 8) (t : Fin 2048) (j : Fin 3584) :
    clipV v lo hi (ix3 b t j) = min (hi ix0) (max (lo ix0) (v (ix3 b t j))) := by
  pointwise [clipV]

end Cert.ReferenceIdeal.Val
-- ==== Proof.Rotation.lean ====
module
public import proofs.«01_k».proof.Proof.SignTable
public import proofs.«01_k».proof.Proof.RefRun
public import proofs.«01_k».proof.Proof.RefEntries

/-! The kernel's rotation of a row and the reference's are the same; it is bounded on real activations and infinite on infinite ones. -/

@[expose] public section
set_option maxRecDepth 16384
noncomputable section
namespace Cert.Equal
open Idealize.ShloMosaic Idealize.ShloMosaic.TcCoe Idealize.ShloMosaic.Tactic
open Cert.KernelIdeal (S8x2048x3584)
open Cert.KernelIdeal.Val (sgn signs signs_at rowK)
open Cert.ReferenceIdeal.Val (had hadR rotR rotV_at)

/-- A sum of reals, taken among the extended reals, is the real sum. -/
theorem coe_sum {n : ℕ} (f : Fin n → ℝ) : ∑ k, (f k : EReal) = ((∑ k, f k : ℝ) : EReal) := by
  induction n with
  | zero => simp
  | succ n ih => rw [Fin.sum_univ_succ, Fin.sum_univ_succ, ih, EReal.coe_add]

/-- Entry `(i, j)` of the Hadamard matrix of order 128. -/
def hr (i j : ℕ) : ℝ := bif sgn 7 i j then -1 else 1

theorem hr_abs (i j : ℕ) : |hr i j| = 1 := by unfold hr; cases sgn 7 i j <;> simp

theorem hr_coe (i j : ℕ) : (bif sgn 7 i j then (-1 : EReal) else 1) = (hr i j : EReal) := by
  unfold hr; cases sgn 7 i j <;> simp

/-- The reference's matrix has these entries. -/
theorem hadR_at (i j : Fin 128) : hadR (ix2 i j) = (hr i.val j.val : EReal) := by
  refine Eq.trans ?_ (hr_coe i.val j.val)
  unfold hadR
  have b := Cert.ReferenceIdeal.Val.base_had
  exact Cert.ReferenceIdeal.Val.kron7_had _ _ (Cert.ReferenceIdeal.Val.kron6_had _ _ (Cert.ReferenceIdeal.Val.kron5_had _ _
    (Cert.ReferenceIdeal.Val.kron4_had _ _ (Cert.ReferenceIdeal.Val.kron3_had _ _ (Cert.ReferenceIdeal.Val.kron2_had _ _
      (Cert.ReferenceIdeal.Val.kron1_had _ _ Cert.ReferenceIdeal.Val.one_had b) b) b) b) b) b) b i j

/-- The weight of the rotation, near the reciprocal of the square root of 128. -/
def wt : ℝ := 11863283 * (2 ^ 27)⁻¹

theorem wt_word : Ideal.ofBits .f32 0x3DB504F3#32 = (wt : EReal) := by
  unfold wt
  simp [Ideal.ofBits, Ideal.ieee]

/-- A factor that is real and not negative distributes over a sum. -/
theorem sum_mul_coe {n : ℕ} (f : Fin n → EReal) (c : ℝ) (hc : 0 ≤ c) : ∑ k, f k * (c : EReal) = (∑ k, f k) * (c : EReal) := by
  induction n with
  | zero => simp
  | succ n ih => rw [Fin.sum_univ_succ, Fin.sum_univ_succ, ih, EReal.right_distrib_of_nonneg_of_ne_top (by exact_mod_cast hc) (EReal.coe_ne_top c)]

theorem wt_nonneg : (0 : ℝ) ≤ wt := by unfold wt; norm_num

section
variable (x : S8x2048x3584.Idx → EReal)

/-- Row `(b, t)` of the activations, rotated, at column `j`. -/
def rotE (b : Fin 8) (t : Fin 2048) (j : Fin 3584) : EReal :=
  (∑ k : Fin 128, x (ix3 b t ⟨j.val / 128 * 128 + k.val, by omega⟩) * (hr k.val (j.val % 128) : EReal)) * (wt : EReal)

/-- The reference's rotation. -/
theorem rotR_eq (b : Fin 8) (t : Fin 2048) (j : Fin 3584) : rotR x (ix3 b t j) = rotE x b t j := by
  unfold rotR
  rw [rotV_at]
  have h : ∀ k : Fin 128, (extf (F := Ideal) .f32 (x : FVec Ideal S8x2048x3584 .bf16) Cert.ReferenceIdeal.Gen.bitsLt_bf16_f32) (ix3 b t ⟨j.val / 128 * 128 + k.val, by omega⟩)
      * (hadR (ix2 k ⟨j.val % 128, by omega⟩) * Ideal.ofBits .f32 0x3DB504F3#32)
      = x (ix3 b t ⟨j.val / 128 * 128 + k.val, by omega⟩) * (hr k.val (j.val % 128) : EReal) * (wt : EReal) := fun k => by
    rw [hadR_at, wt_word]
    exact (mul_assoc _ _ _).symm
  refine (Finset.sum_congr rfl fun k _ => h k).trans ?_
  exact sum_mul_coe _ _ wt_nonneg

/-- The kernel's rotation: of its 256 terms the 128 outside the diagonal block are zero. -/
theorem rowK_eq (b : Fin 8) (t : Fin 2048) (j : Fin 3584) : rowK x b t j = rotE x b t j := by
  unfold rowK rotE
  rw [wt_word]
  congr 1
  have split : ∀ f : Fin 256 → EReal, ∑ k, f k = ∑ k : Fin 128, f ⟨k.val, by omega⟩ + ∑ k : Fin 128, f ⟨128 + k.val, by omega⟩ := fun f =>
    Fin.sum_univ_add (a := 128) (b := 128) f
  rw [split]
  simp only [signs_at]
  rcases (by omega : j.val % 256 / 128 = 0 ∨ j.val % 256 / 128 = 1) with h | h
  · have z : ∑ k : Fin 128, x (ix3 b t ⟨256 * (j.val / 256) + (128 + k.val), by omega⟩)
        * (if (128 + k.val) / 128 = j.val % 256 / 128 then (bif sgn 7 ((128 + k.val) % 128) (j.val % 256 % 128) then (-1 : EReal) else 1) else 0) = 0 :=
      Finset.sum_eq_zero fun k _ => by rw [if_neg (by omega), mul_zero]
    rw [z, add_zero]
    refine Finset.sum_congr rfl fun k _ => ?_
    rw [if_pos (by omega), hr_coe]
    have e1 : 256 * (j.val / 256) + k.val = j.val / 128 * 128 + k.val := by omega
    have e2 : k.val % 128 = k.val := by omega
    have e3 : j.val % 256 % 128 = j.val % 128 := by omega
    simp only [e1, e2, e3]
  · have z : ∑ k : Fin 128, x (ix3 b t ⟨256 * (j.val / 256) + k.val, by omega⟩)
        * (if k.val / 128 = j.val % 256 / 128 then (bif sgn 7 (k.val % 128) (j.val % 256 % 128) then (-1 : EReal) else 1) else 0) = 0 :=
      Finset.sum_eq_zero fun k _ => by rw [if_neg (by omega), mul_zero]
    rw [z, zero_add]
    refine Finset.sum_congr rfl fun k _ => ?_
    rw [if_pos (by omega), hr_coe]
    have e1 : 256 * (j.val / 256) + (128 + k.val) = j.val / 128 * 128 + k.val := by omega
    have e2 : (128 + k.val) % 128 = k.val := by omega
    have e3 : j.val % 256 % 128 = j.val % 128 := by omega
    simp only [e1, e2, e3]

/-- A sum with an infinite term is infinite. -/
theorem sum_infinite {n : ℕ} (f : Fin n → EReal) (k : Fin n) (h : f k = ⊤ ∨ f k = ⊥) : ∑ i, f i = ⊤ ∨ ∑ i, f i = ⊥ := by
  rw [← Finset.add_sum_erase _ _ (Finset.mem_univ k)]
  rcases h with h | h
  · rw [h]
    by_cases hb : ∑ i ∈ Finset.univ.erase k, f i = ⊥
    · exact Or.inr (by rw [hb, EReal.add_bot])
    · exact Or.inl (EReal.top_add_of_ne_bot hb)
  · exact Or.inr (by rw [h, EReal.bot_add])

/-- Where an activation is infinite, so is the rotated row in the same column. -/
theorem rotE_infinite (b : Fin 8) (t : Fin 2048) (k : Fin 3584) (h : x (ix3 b t k) = ⊤ ∨ x (ix3 b t k) = ⊥) :
    rotE x b t k = ⊤ ∨ rotE x b t k = ⊥ := by
  have hw : (0 : EReal) < (wt : EReal) := by
    have : (0 : ℝ) < wt := by unfold wt; norm_num
    exact_mod_cast this
  have hk : (⟨k.val / 128 * 128 + k.val % 128, by omega⟩ : Fin 3584) = k := Fin.ext (by show k.val / 128 * 128 + k.val % 128 = k.val; omega)
  have hs := sum_infinite (fun i : Fin 128 => x (ix3 b t ⟨k.val / 128 * 128 + i.val, by omega⟩) * (hr i.val (k.val % 128) : EReal)) ⟨k.val % 128, by omega⟩ (by
    simp only [hk]
    unfold hr
    rcases h with h | h <;> rw [h] <;> cases sgn 7 (k.val % 128) (k.val % 128) <;> simp)
  unfold rotE
  rcases hs with hs | hs <;> rw [hs]
  · exact Or.inl (EReal.top_mul_of_pos hw)
  · exact Or.inr (EReal.bot_mul_of_pos hw)
end

variable (X : S8x2048x3584.Idx → ℝ)

/-- Row `(b, t)` of real activations, rotated, at column `j`. -/
def rot (b : Fin 8) (t : Fin 2048) (j : Fin 3584) : ℝ :=
  (∑ k : Fin 128, X (ix3 b t ⟨j.val / 128 * 128 + k.val, by omega⟩) * hr k.val (j.val % 128)) * wt

/-- The rotation of a row of reals. -/
theorem rotE_real (x : S8x2048x3584.Idx → EReal) (b : Fin 8) (t : Fin 2048) (h : ∀ k, x (ix3 b t k) = (X (ix3 b t k) : EReal)) (j : Fin 3584) :
    rotE x b t j = (rot X b t j : EReal) := by
  unfold rotE rot
  rw [EReal.coe_mul, ← coe_sum]
  simp only [h, EReal.coe_mul]

/-- A rotated entry is at most 128 times the bound of the row's activations, times the weight. -/
theorem rot_bound (M : ℝ) (b : Fin 8) (t : Fin 2048) (hX : ∀ k, |X (ix3 b t k)| ≤ M) (j : Fin 3584) : |rot X b t j| ≤ 128 * M * wt := by
  unfold rot
  have hw : (0 : ℝ) ≤ wt := by unfold wt; norm_num
  rw [abs_mul, abs_of_nonneg hw]
  refine mul_le_mul_of_nonneg_right ?_ hw
  refine (Finset.abs_sum_le_sum_abs _ _).trans ?_
  have : ∑ k : Fin 128, |X (ix3 b t ⟨j.val / 128 * 128 + k.val, by omega⟩) * hr k.val (j.val % 128)| ≤ ∑ k : Fin 128, M :=
    Finset.sum_le_sum fun k _ => by rw [abs_mul, hr_abs, mul_one]; exact hX _
  refine this.trans (le_of_eq ?_)
  simp

end Cert.Equal
-- ==== Proof.Orthogonal.lean ====
module
public import proofs.«01_k».proof.Proof.Rotation

/-! The Hadamard matrix is orthogonal, so a rotated row has an entry as great as the weight times any entry of the row. -/

@[expose] public section
noncomputable section
namespace Cert.Equal
open Idealize.ShloMosaic Idealize.ShloMosaic.TcCoe Idealize.ShloMosaic.Tactic
open Cert.KernelIdeal (S8x2048x3584)
open Cert.KernelIdeal.Val (sgn)

/-- Entry `(i, j)` of the Hadamard matrix of order `2^n`. -/
def hn (n i j : ℕ) : ℝ := bif sgn n i j then -1 else 1

/-- A sum over twice as many indices, two by two. -/
theorem sum_pairs (f : ℕ → ℝ) (m : ℕ) : ∑ j ∈ Finset.range (2 * m), f j = ∑ j ∈ Finset.range m, (f (2 * j) + f (2 * j + 1)) := by
  induction m with
  | zero => simp
  | succ m ih => rw [show 2 * (m + 1) = 2 * m + 1 + 1 by ring, Finset.sum_range_succ, Finset.sum_range_succ, ih, Finset.sum_range_succ]; ring

theorem hn_even (n i j : ℕ) : hn (n + 1) i (2 * j) = hn n (i / 2) j := by
  unfold hn
  rw [sgn, show 2 * j / 2 = j by omega, show 2 * j % 2 = 0 by omega]
  simp

theorem hn_odd (n i j : ℕ) : hn (n + 1) i (2 * j + 1) = hn n (i / 2) j * (if i % 2 = 1 then -1 else 1) := by
  unfold hn
  rw [sgn, show (2 * j + 1) / 2 = j by omega, show (2 * j + 1) % 2 = 1 by omega]
  rcases Nat.mod_two_eq_zero_or_one i with h | h <;> rw [h] <;> cases sgn n (i / 2) j <;> simp

/-- Two rows of the matrix are orthogonal; a row's square is the order. -/
theorem hn_orth (n k i : ℕ) (hk : k < 2 ^ n) (hi : i < 2 ^ n) : ∑ j ∈ Finset.range (2 ^ n), hn n k j * hn n i j = if k = i then 2 ^ n else 0 := by
  induction n generalizing k i with
  | zero =>
    obtain rfl : k = 0 := by omega
    obtain rfl : i = 0 := by omega
    simp [hn, sgn]
  | succ n ih =>
    rw [pow_succ] at hk hi
    have h := ih (k / 2) (i / 2) (by omega) (by omega)
    rw [show 2 ^ (n + 1) = 2 * 2 ^ n by ring, sum_pairs]
    simp only [hn_even, hn_odd]
    have e : ∀ a b s u : ℝ, a * b + a * s * (b * u) = a * b * (1 + s * u) := fun a b s u => by ring
    simp only [e]
    rw [← Finset.sum_mul, h]
    rcases Nat.mod_two_eq_zero_or_one k with h1 | h1 <;> rcases Nat.mod_two_eq_zero_or_one i with h2 | h2 <;> rw [h1, h2]
    · by_cases hc : k = i
      · rw [if_pos hc, if_pos (by omega)]; norm_num; ring
      · rw [if_neg hc, if_neg (by omega)]; norm_num
    · rw [if_neg (show ¬ k = i by omega)]; norm_num
    · rw [if_neg (show ¬ k = i by omega)]; norm_num
    · by_cases hc : k = i
      · rw [if_pos hc, if_pos (by omega)]; norm_num; ring
      · rw [if_neg hc, if_neg (by omega)]; norm_num

theorem hr_orth (k i : Fin 128) : ∑ j : Fin 128, hr k.val j.val * hr i.val j.val = if k = i then 128 else 0 := by
  rw [Fin.sum_univ_eq_sum_range (fun j => hr k.val j * hr i.val j) 128]
  refine (hn_orth 7 k.val i.val k.isLt i.isLt).trans ?_
  simp only [Fin.ext_iff]
  norm_num

/-- Among the transforms of 128 reals is one at least as great as any of them. -/
theorem transform_large (x : Fin 128 → ℝ) (k : Fin 128) : ∃ j : Fin 128, |x k| ≤ |∑ i : Fin 128, x i * hr i.val j.val| := by
  by_contra hc
  push Not at hc
  have h : ∑ j : Fin 128, (∑ i : Fin 128, x i * hr i.val j.val) * hr k.val j.val = 128 * x k := by
    simp only [Finset.sum_mul]
    rw [Finset.sum_comm]
    have e : ∀ i : Fin 128, ∑ j : Fin 128, x i * hr i.val j.val * hr k.val j.val = if i = k then 128 * x k else 0 := fun i => by
      simp only [mul_assoc]
      rw [← Finset.mul_sum, hr_orth]
      by_cases h : i = k
      · rw [if_pos h, if_pos h, h]; ring
      · rw [if_neg h, if_neg h, mul_zero]
    rw [Finset.sum_congr rfl fun i _ => e i]
    simp
  have hlt : |128 * x k| < ∑ j : Fin 128, |x k| := by
    rw [← h]
    refine (Finset.abs_sum_le_sum_abs _ _).trans_lt ?_
    refine Finset.sum_lt_sum_of_nonempty ⟨0, Finset.mem_univ _⟩ fun j _ => ?_
    rw [abs_mul, hr_abs, mul_one]
    exact hc j
  rw [abs_mul] at hlt
  simp at hlt

/-- A rotated row has an entry of at least the weight times the magnitude of any entry of the row. -/
theorem rot_large (X : S8x2048x3584.Idx → ℝ) (b : Fin 8) (t : Fin 2048) (k : Fin 3584) : ∃ j : Fin 3584, |X (ix3 b t k)| * wt ≤ |rot X b t j| := by
  obtain ⟨j, hj⟩ := transform_large (fun i => X (ix3 b t ⟨k.val / 128 * 128 + i.val, by omega⟩)) ⟨k.val % 128, by omega⟩
  refine ⟨⟨k.val / 128 * 128 + j.val, by omega⟩, ?_⟩
  have hw : (0 : ℝ) ≤ wt := by unfold wt; norm_num
  unfold rot
  rw [abs_mul, abs_of_nonneg hw]
  refine mul_le_mul_of_nonneg_right ?_ hw
  have e1 : k.val / 128 * 128 + k.val % 128 = k.val := by omega
  have e2 : (k.val / 128 * 128 + j.val) / 128 = k.val / 128 := by omega
  have e3 : (k.val / 128 * 128 + j.val) % 128 = j.val := by omega
  simp only [e1] at hj
  simp only [e2, e3]
  exact hj

/-- A zero row is rotated to zero. -/
theorem rot_zero (X : S8x2048x3584.Idx → ℝ) (b : Fin 8) (t : Fin 2048) (h : ∀ k, X (ix3 b t k) = 0) (j : Fin 3584) : rot X b t j = 0 := by
  unfold rot
  rw [Finset.sum_eq_zero fun k _ => by rw [h, zero_mul], zero_mul]

end Cert.Equal
-- ==== Proof.InRange.lean ====
module
public import proofs.«01_k».proof.Pre_in_range
public import Idealize.ShloMosaic.Lib.ReduceAll
public import Idealize.ShloMosaic.Lib.Pointwise
public import Idealize.ShloMosaic.Lib.Claim

/-! What the precondition says: a row of activations has an infinite entry, or is real, of at most the greatest finite
    magnitude, and is zero or has an entry of at least 2^-113. -/

@[expose] public section
set_option maxRecDepth 16384
noncomputable section
namespace Cert.Equal
open Idealize.ShloMosaic Idealize.ShloMosaic.TcCoe Idealize.ShloMosaic.Tactic
open Cert.Pre_in_range (S8x2048x3584 S3584x18944 S18944 S8x2048 S_)

/-- The greatest finite magnitude of the activations' format. -/
theorem max_word : Ideal.ofBits .f32 0x7F7F0000#32 = ((255 * 2 ^ 120 : ℝ) : EReal) := by
  rw [show (255 * 2 ^ 120 : ℝ) = 16711680 * 2 ^ 104 by norm_num]
  simp [Ideal.ofBits, Ideal.ieee]

theorem least_word : Ideal.ofBits .f32 0x07000000#32 = (((2 : ℝ) ^ (-113 : ℤ) : ℝ) : EReal) := by
  simp [Ideal.ofBits, Ideal.ieee]
  rw [← EReal.coe_mul]
  norm_num

theorem neg_inf_word : Ideal.ofBits .f32 0xFF800000#32 = ⊥ := by simp [Ideal.ofBits, Ideal.ieee]

theorem zero_word : Ideal.ofBits .f32 0x00000000#32 = 0 := by simp [Ideal.ofBits, Ideal.ieee]

/-- A magnitude bounded by a real is that of a real. -/
theorem real_of_abs_le (x : EReal) (M : ℝ) (h : max x (-x) ≤ (M : EReal)) : ∃ r : ℝ, x = (r : EReal) ∧ |r| ≤ M := by
  obtain ⟨h1, h2⟩ := max_le_iff.1 h
  induction x using EReal.rec with
  | bot => simp at h2
  | top => simp at h1
  | coe r =>
    refine ⟨r, rfl, abs_le.2 ⟨?_, by exact_mod_cast h1⟩⟩
    have : -r ≤ M := by exact_mod_cast h2
    linarith

/-- What the precondition asks of a row of real activations. -/
structure InRange (X : S8x2048x3584.Idx → ℝ) (b : Fin 8) (t : Fin 2048) : Prop where
  le : ∀ k : Fin 3584, |X (ix3 b t k)| ≤ 255 * 2 ^ 120
  row : (∀ k : Fin 3584, X (ix3 b t k) = 0) ∨ ∃ k : Fin 3584, (2 : ℝ) ^ (-113 : ℤ) ≤ |X (ix3 b t k)|

/-- What it asks of the activations `x`, `X` their reals. -/
def Rows (x : S8x2048x3584.Idx → EReal) (X : S8x2048x3584.Idx → ℝ) : Prop :=
  ∀ (b : Fin 8) (t : Fin 2048), (∃ k : Fin 3584, x (ix3 b t k) = ⊤ ∨ x (ix3 b t k) = ⊥) ∨ (∀ k : Fin 3584, x (ix3 b t k) = (X (ix3 b t k) : EReal)) ∧ InRange X b t

theorem inf_word : Ideal.ofBits .f32 0x7F800000#32 = ⊤ := by simp [Ideal.ofBits, Ideal.ieee]

/-- The magnitude of a real. -/
theorem absf_coe (r : ℝ) : FloatOps.absf (F := Ideal) (φ := .f32) ((r : ℝ) : EReal) = ((|r| : ℝ) : EReal) := by
  show max (r : EReal) (-(r : EReal)) = _
  rw [← EReal.coe_neg, abs_eq_max_neg]
  exact (EReal.coe_strictMono.monotone.map_max).symm

/-- A magnitude is infinite of an infinite number only. -/
theorem infinite_of_absf (y : EReal) (h : FloatOps.absf (F := Ideal) (φ := .f32) y = (⊤ : EReal)) : y = ⊤ ∨ y = ⊥ := by
  induction y using EReal.rec with
  | bot => exact Or.inr rfl
  | top => exact Or.inl rfl
  | coe r =>
    rw [absf_coe] at h
    exact absurd h (EReal.coe_ne_top _)

section
variable [Cert.Pre_in_range.Facts]
open Cert.Pre_in_range.Facts

/-- The rows' greatest magnitudes. -/
def rowMax (x : FVec Ideal S8x2048x3584 .bf16) : FVec Ideal S8x2048 .f32 :=
  Host.reduce FloatOps.maximumf (Host.absf (extf .f32 x bitsLt_bf16_f32 : FVec Ideal S8x2048x3584 .f32)) (constant S_ .f32 0xFF800000#32 : FVec Ideal S_ .f32)
    reducesTo_S8x2048x3584_S8x2048_d2 h_S_
/-- Whether they are zero, in range or infinite. -/
def rowTest (v : FVec Ideal S8x2048 .f32) : IVec S8x2048 1 :=
  ori (ori (cmpf .oeq v (broadcastInDim S8x2048 ![] bcast_S_S8x2048 (constant S_ .f32 0x00000000#32 : FVec Ideal S_ .f32)))
    (andi (cmpf .oge v (broadcastInDim S8x2048 ![] bcast_S_S8x2048 (constant S_ .f32 0x07000000#32 : FVec Ideal S_ .f32)))
      (cmpf .ole v (broadcastInDim S8x2048 ![] bcast_S_S8x2048 (constant S_ .f32 0x7F7F0000#32 : FVec Ideal S_ .f32)))))
    (cmpf .oeq v (broadcastInDim S8x2048 ![] bcast_S_S8x2048 (constant S_ .f32 0x7F800000#32 : FVec Ideal S_ .f32)))

theorem rowMax_at (x : FVec Ideal S8x2048x3584 .bf16) (b : Fin 8) (t : Fin 2048) :
    rowMax x (ix2 b t) = Finset.univ.fold max (Ideal.ofBits .f32 0xFF800000#32) (fun j : Fin 3584 => FloatOps.absf (F := Ideal) (φ := .f32) (x (ix3 b t j))) := by
  pointwise [rowMax]

theorem rowTest_at (v : FVec Ideal S8x2048 .f32) (b : Fin 8) (t : Fin 2048) :
    rowTest v (ix2 b t) = IntOp.ori (IntOp.ori (BitVec.ofBool (decide (v (ix2 b t) = Ideal.ofBits .f32 0x00000000#32)))
      (IntOp.andi (BitVec.ofBool (decide (Ideal.ofBits .f32 0x07000000#32 ≤ v (ix2 b t)))) (BitVec.ofBool (decide (v (ix2 b t) ≤ Ideal.ofBits .f32 0x7F7F0000#32)))))
      (BitVec.ofBool (decide (v (ix2 b t) = Ideal.ofBits .f32 0x7F800000#32))) := by
  rfl

theorem fn_eq (x : FVec Ideal S8x2048x3584 .bf16) (w : FVec Ideal S3584x18944 .fp8e4m3) (s : FVec Ideal S18944 .f32) :
    Cert.Pre_in_range.fn (F := Ideal) x w s = Host.reduce IntOp.andi (rowTest (rowMax x)) (constantI S_ 1 1#1) reducesTo_S8x2048_S_d0_1 h_S_ := rfl

theorem bits_in_range (a b c d : Bool) (h : IntOp.ori (IntOp.ori (BitVec.ofBool a) (IntOp.andi (BitVec.ofBool b) (BitVec.ofBool c))) (BitVec.ofBool d) = 1#1) :
    a = true ∨ (b = true ∧ c = true) ∨ d = true := by
  revert h
  cases a <;> cases b <;> cases c <;> cases d <;> decide

/-- The precondition, row by row. -/
theorem in_range_row (x : FVec Ideal S8x2048x3584 .bf16) (w : FVec Ideal S3584x18944 .fp8e4m3)
    (s : FVec Ideal S18944 .f32) (h : Cert.Pre_in_range.fn (F := Ideal) x w s = fun _ => 1#1) (b : Fin 8) (t : Fin 2048) :
    let m := Finset.univ.fold max (⊥ : EReal) (fun j : Fin 3584 => FloatOps.absf (F := Ideal) (φ := .f32) (x (ix3 b t j)))
    m = 0 ∨ ((((2 : ℝ) ^ (-113 : ℤ) : ℝ) : EReal) ≤ m ∧ m ≤ ((255 * 2 ^ 120 : ℝ) : EReal)) ∨ m = ⊤ := by
  intro m
  haveI : Subsingleton S_.Idx := ⟨fun a b => funext fun k => k.elim0⟩
  rw [fn_eq] at h
  have h1 := Host.reduce_andi_all _ _ _ _ _ (congrFun h (fun k => k.elim0)) (ix2 b t)
  have hm := rowMax_at x b t
  rw [neg_inf_word] at hm
  change _ = m at hm
  rw [rowTest_at, hm] at h1
  rw [← max_word, ← least_word, ← zero_word, ← inf_word]
  rcases bits_in_range _ _ _ _ h1 with h2 | ⟨h2, h3⟩ | h2
  · exact Or.inl (of_decide_eq_true h2)
  · exact Or.inr (Or.inl ⟨of_decide_eq_true h2, of_decide_eq_true h3⟩)
  · exact Or.inr (Or.inr (of_decide_eq_true h2))

/-- The rows of activations of which the precondition holds. -/
theorem in_range_rows (x : FVec Ideal S8x2048x3584 .bf16) (w : FVec Ideal S3584x18944 .fp8e4m3)
    (s : FVec Ideal S18944 .f32) (h : Cert.Pre_in_range.fn (F := Ideal) x w s = fun _ => 1#1) :
    Rows x (fun i => (x i).toReal) := by
  intro b t
  have hr := in_range_row x w s h b t
  generalize hm : Finset.univ.fold max (⊥ : EReal) (fun j : Fin 3584 => FloatOps.absf (F := Ideal) (φ := .f32) (x (ix3 b t j))) = m at hr
  by_cases ht : m = ⊤
  · left
    rcases (Finset.le_fold_max (⊤ : EReal)).1 (le_of_eq (hm.trans ht).symm) with hbot | ⟨k, -, hk⟩
    · simp at hbot
    · exact ⟨k, infinite_of_absf _ (top_le_iff.1 hk)⟩
  · right
    have hle : m ≤ ((255 * 2 ^ 120 : ℝ) : EReal) := by
      rcases hr with h0 | ⟨-, h0⟩ | h0
      · rw [h0]
        exact_mod_cast (by positivity : (0 : ℝ) ≤ 255 * 2 ^ 120)
      · exact h0
      · exact absurd h0 ht
    have hx : ∀ k : Fin 3584, x (ix3 b t k) = ((x (ix3 b t k)).toReal : EReal) ∧ |(x (ix3 b t k)).toReal| ≤ 255 * 2 ^ 120 := fun k => by
      have hk := (Finset.fold_max_le (b := (⊥ : EReal)) (s := Finset.univ) (f := fun j : Fin 3584 => FloatOps.absf (F := Ideal) (φ := .f32) (x (ix3 b t j))) m).1 (le_of_eq hm)
      obtain ⟨r, hr, hb⟩ := real_of_abs_le (x (ix3 b t k)) _ ((hk.2 k (Finset.mem_univ _)).trans hle)
      rw [hr, EReal.toReal_coe]
      exact ⟨rfl, hb⟩
    refine ⟨fun k => (hx k).1, fun k => (hx k).2, ?_⟩
    have hc : ∀ k : Fin 3584, FloatOps.absf (F := Ideal) (φ := .f32) (x (ix3 b t k)) = ((|(x (ix3 b t k)).toReal| : ℝ) : EReal) := fun k =>
      (congrArg (FloatOps.absf (F := Ideal) (φ := .f32)) (hx k).1).trans (absf_coe _)
    rcases hr with h0 | ⟨h0, -⟩ | h0
    · refine Or.inl fun k => ?_
      have hle := (Finset.fold_max_le (b := (⊥ : EReal)) (0 : EReal)).1 (le_of_eq (hm.trans h0))
      have := hle.2 k (Finset.mem_univ _)
      rw [hc] at this
      exact abs_nonpos_iff.1 (by exact_mod_cast this)
    · refine Or.inr ?_
      rw [← hm] at h0
      rcases (Finset.le_fold_max _).1 h0 with hbot | ⟨k, -, hk⟩
      · simp at hbot
      · rw [hc] at hk
        exact ⟨k, by exact_mod_cast hk⟩
    · exact absurd h0 ht
end

end Cert.Equal
-- ==== Proof.Exponent.lean ====
module
public import proofs.«01_k».proof.Proof.RotateBlock

/-! The kernel's exponent word, and the scale and its reciprocal that the kernel makes from it, as powers of two. -/

@[expose] public section
set_option maxRecDepth 16384
noncomputable section
namespace Cert.KernelIdeal.Val
open Idealize.ShloMosaic

/-- The float word with exponent field `k` and nothing else. -/
abbrev fieldWord (k : ℕ) : BitVec 32 := IntOp.shli ArithUnit.vector (BitVec.ofNat 32 k) 23#32

theorem fieldWord_bits : ∀ k : Fin 256, (fieldWord k.val).extractLsb' 31 1 = 0#1 ∧ ((fieldWord k.val).extractLsb' 23 8).toNat = k.val
    ∧ ((fieldWord k.val).extractLsb' 0 23).toNat = 0 := by decide +kernel

/-- The word with field 0 reads as 0. -/
theorem field_zero : Ideal.ofBits .f32 (fieldWord 0) = 0 := by
  obtain ⟨h1, h2, h3⟩ := fieldWord_bits 0
  simp only [Fin.val_zero] at h1 h2 h3
  show Ideal.ieee 8 23 (fieldWord 0) = 0
  unfold Ideal.ieee
  simp only [h1, h2, h3]
  simp

/-- The word with field `k` of 1 to 254 reads as `2^(k-127)`. -/
theorem field_pow (k : ℕ) (h0 : 0 < k) (h1 : k < 255) : Ideal.ofBits .f32 (fieldWord k) = (((2 : ℝ) ^ ((k : ℤ) - 127) : ℝ) : EReal) := by
  obtain ⟨b1, b2, b3⟩ := fieldWord_bits ⟨k, by omega⟩
  simp only at b1 b2 b3
  show Ideal.ieee 8 23 (fieldWord k) = _
  unfold Ideal.ieee
  simp only [b1, b2, b3]
  rw [if_neg (by omega), if_neg (by omega)]
  refine congrArg _ ?_
  have e : (2 : ℝ) ^ ((k : ℤ) - (2 ^ (8 - 1) - 1) - (23 : ℕ)) = 2 ^ ((k : ℤ) - 127) * (2 ^ 23)⁻¹ := by
    rw [show (k : ℤ) - (2 ^ (8 - 1) - 1) - (23 : ℕ) = ((k : ℤ) - 127) + (-23 : ℤ) by norm_num; ring, zpow_add₀ (by norm_num : (2 : ℝ) ≠ 0)]
    norm_num
  rw [e]
  have d : (if (0#1 == 1#1) = true then (-1 : ℝ) else 1) = 1 := by simp
  rw [d]
  push_cast
  ring

/-- The word with field 255 reads as infinity. -/
theorem field_top : Ideal.ofBits .f32 (fieldWord 255) = ⊤ := by
  obtain ⟨b1, b2, b3⟩ := fieldWord_bits 255
  have e : ((255 : Fin 256) : ℕ) = 255 := rfl
  rw [e] at b1 b2 b3
  show Ideal.ieee 8 23 (fieldWord 255) = _
  unfold Ideal.ieee
  simp only [b1, b2, b3]
  simp

theorem inf_word : Ideal.ofBits .f32 0x7F800000#32 = ⊤ := by simp [Ideal.ofBits, Ideal.ieee]

/-- The greatest field whose power is at most `p`. -/
def topField (p : EReal) : ℕ := Nat.findGreatest (fun k => Ideal.ofBits .f32 (fieldWord k) ≤ p) 255

theorem topField_le (p : EReal) : topField p ≤ 255 := Nat.findGreatest_le _

theorem toInt_maxsi (x y : BitVec 32) : (IntOp.maxsi x y).toInt = max x.toInt y.toInt := by
  unfold IntOp.maxsi
  by_cases h : y.slt x = true
  · rw [if_pos h]
    have := BitVec.slt_iff_toInt_lt.1 h
    omega
  · rw [if_neg h]
    have h' : ¬ y.toInt < x.toInt := fun q => h (BitVec.slt_iff_toInt_lt.2 q)
    omega

theorem toInt_small : ∀ k : Fin 256, (BitVec.ofNat 32 k.val).toInt = k.val := by decide +kernel

/-- The kernel's running maximum over the fields is the greatest one. -/
theorem fold_topField (p : EReal) (hp : 0 ≤ p) :
    (Finset.fold IntOp.maxsi 2147483648#32 (fun x : Fin 256 => if Ideal.ofBits .f32 (fieldWord x.val) ≤ p then BitVec.ofNat 32 x.val else 0#32)
      Finset.univ) = BitVec.ofNat 32 (topField p) := by
  have hF : Ideal.ofBits .f32 (fieldWord (topField p)) ≤ p :=
    Nat.findGreatest_spec (P := fun k => Ideal.ofBits .f32 (fieldWord k) ≤ p) (m := 0) (Nat.zero_le _) (by rw [field_zero]; exact hp)
  have hF' : topField p < 256 := by have := topField_le p; omega
  apply BitVec.eq_of_toInt_eq
  rw [← Finset.fold_hom (op := IntOp.maxsi) (op' := max) (m := BitVec.toInt) toInt_maxsi]
  rw [toInt_small ⟨topField p, hF'⟩]
  apply le_antisymm
  · refine (Finset.fold_max_le _).2 ⟨?_, fun x _ => ?_⟩
    · have : (2147483648#32).toInt = -2147483648 := by decide
      omega
    · split
      · rename_i h
        rw [toInt_small x]
        have : x.val ≤ topField p := Nat.le_findGreatest (by omega) h
        exact_mod_cast this
      · have : (0#32).toInt = 0 := by decide
        omega
  · refine (Finset.le_fold_max _).2 (Or.inr ⟨⟨topField p, hF'⟩, Finset.mem_univ _, ?_⟩)
    simp only
    rw [if_pos hF, toInt_small ⟨topField p, hF'⟩]

/-- What the exponent of `p` is: 0 for 0, else the least exponent from -126 up whose power is above `p`. -/
def IsExp (p : ℝ) (e : ℤ) : Prop :=
  -126 ≤ e ∧ e ≤ 126 ∧ (p = 0 → e = 0) ∧ (0 < p → p < 2 ^ e ∧ (e = -126 ∨ 2 ^ (e - 1) ≤ p))

theorem expWord_spec (p : ℝ) (h0 : 0 ≤ p) (h1 : p < 2 ^ 126) : ∃ e : ℤ, IsExp p e ∧ expWord (p : EReal) = BitVec.ofInt 32 e := by
  rcases h0.eq_or_lt with rfl | hpos
  · refine ⟨0, ⟨by norm_num, by norm_num, fun _ => rfl, fun h => absurd h (lt_irrefl _)⟩, ?_⟩
    unfold expWord
    simp [Scalar.select, IntOp.andi]
  · have hpE : (0 : EReal) ≤ (p : EReal) := by exact_mod_cast h0
    have hF : Ideal.ofBits .f32 (fieldWord (topField p)) ≤ (p : EReal) :=
      Nat.findGreatest_spec (P := fun k => Ideal.ofBits .f32 (fieldWord k) ≤ (p : EReal)) (m := 0) (Nat.zero_le _) (by rw [field_zero]; exact hpE)
    have hle := topField_le (p : EReal)
    have hlt : topField p < 253 := by
      by_contra hc
      have hc : 253 ≤ topField p := by omega
      rcases hle.eq_or_lt with h | h
      · rw [h, field_top] at hF
        exact absurd hF (by simp)
      · rw [field_pow _ (by omega) h] at hF
        have hF : (2 : ℝ) ^ ((topField p : ℤ) - 127) ≤ p := by exact_mod_cast hF
        have : (2 : ℝ) ^ (126 : ℤ) ≤ 2 ^ ((topField p : ℤ) - 127) := zpow_le_zpow_right₀ (by norm_num) (by omega)
        have : (2 : ℝ) ^ (126 : ℤ) = 2 ^ 126 := by norm_cast
        linarith
    have hnext : p < (2 : ℝ) ^ ((topField p : ℤ) - 126) := by
      have := Nat.findGreatest_is_greatest (P := fun k => Ideal.ofBits .f32 (fieldWord k) ≤ (p : EReal)) (n := 255)
        (k := topField p + 1) (Nat.lt_succ_self _) (by omega)
      rw [field_pow _ (by omega) (by omega), not_le] at this
      have this : p < (2 : ℝ) ^ (((topField p + 1 : ℕ) : ℤ) - 127) := by exact_mod_cast this
      rwa [show ((topField p + 1 : ℕ) : ℤ) - 127 = (topField p : ℤ) - 126 by push_cast; ring] at this
    refine ⟨(topField p : ℤ) - 126, ⟨by omega, by omega, fun h => absurd h hpos.ne', fun _ => ⟨hnext, ?_⟩⟩, ?_⟩
    · rcases Nat.eq_zero_or_pos (topField p) with h | h
      · left; omega
      · right
        rw [field_pow _ h (by omega)] at hF
        have hF : (2 : ℝ) ^ ((topField p : ℤ) - 127) ≤ p := by exact_mod_cast hF
        rwa [show (topField p : ℤ) - 126 - 1 = (topField p : ℤ) - 127 by ring]
    · have a1 : decide ((0 : EReal) < p) = true := decide_eq_true (by exact_mod_cast hpos)
      have a2 : decide ((p : EReal) < Ideal.ofBits .f32 0x7F800000#32) = true := decide_eq_true (by rw [inf_word]; exact EReal.coe_lt_top p)
      unfold expWord
      rw [a1, a2]
      have hf := fold_topField (p : EReal) hpE
      rw [hf]
      have b : Scalar.select (IntOp.andi (BitVec.ofBool true) (BitVec.ofBool true)) (IntOp.subi (BitVec.ofNat 32 (topField p)) 126#32) 0#32
          = IntOp.subi (BitVec.ofNat 32 (topField p)) 126#32 := rfl
      rw [b]
      generalize topField (p : EReal) = k at hlt
      interval_cases k <;> rfl

theorem scale_word (e : ℤ) (h0 : -126 ≤ e) (h1 : e ≤ 126) : IntOp.addi (BitVec.ofInt 32 e) 127#32 = BitVec.ofNat 32 (e + 127).toNat
    ∧ IntOp.subi 127#32 (BitVec.ofInt 32 e) = BitVec.ofNat 32 (127 - e).toNat := by
  obtain ⟨k, rfl⟩ : ∃ k : ℕ, e = (k : ℤ) - 126 := ⟨(e + 126).toNat, by omega⟩
  have : k < 253 := by omega
  have H : ∀ k : Fin 253, IntOp.addi (BitVec.ofInt 32 ((k.val : ℤ) - 126)) 127#32 = BitVec.ofNat 32 ((k.val : ℤ) - 126 + 127).toNat
    ∧ IntOp.subi 127#32 (BitVec.ofInt 32 ((k.val : ℤ) - 126)) = BitVec.ofNat 32 (127 - ((k.val : ℤ) - 126)).toNat := by decide +kernel
  exact H ⟨k, this⟩

/-- The scale is two to the exponent, and its reciprocal two to the exponent's negative. -/
theorem scale_spec (p : ℝ) (h0 : 0 ≤ p) (h1 : p < 2 ^ 126) : ∃ e : ℤ, IsExp p e
    ∧ scaleOf (p : EReal) = (((2 : ℝ) ^ e : ℝ) : EReal) ∧ invOf (p : EReal) = (((2 : ℝ) ^ (-e) : ℝ) : EReal) := by
  obtain ⟨e, he, hw⟩ := expWord_spec p h0 h1
  obtain ⟨w1, w2⟩ := scale_word e he.1 he.2.1
  have := he.1
  have := he.2.1
  refine ⟨e, he, ?_, ?_⟩
  · unfold scaleOf
    rw [hw, w1]
    refine (field_pow (e + 127).toNat (by omega) (by omega)).trans ?_
    rw [show ((e + 127).toNat : ℤ) - 127 = e by omega]
  · unfold invOf
    rw [hw, w2]
    refine (field_pow (127 - e).toNat (by omega) (by omega)).trans ?_
    rw [show ((127 - e).toNat : ℤ) - 127 = -e by omega]

/-- Where `p` is infinite, the scale is one and so is its reciprocal. -/
theorem scale_top : scaleOf ⊤ = (((2 : ℝ) ^ (0 : ℤ) : ℝ) : EReal) ∧ invOf ⊤ = (((2 : ℝ) ^ (-0 : ℤ) : ℝ) : EReal) := by
  have hw : expWord ⊤ = 0#32 := by
    unfold expWord
    rw [decide_eq_false (show ¬ (⊤ : EReal) < Ideal.ofBits .f32 0x7F800000#32 by rw [inf_word]; exact lt_irrefl _)]
    cases decide ((0 : EReal) < ⊤) <;> rfl
  unfold scaleOf invOf
  rw [hw]
  exact ⟨field_pow 127 (by omega) (by omega), field_pow 127 (by omega) (by omega)⟩

end Cert.KernelIdeal.Val
-- ==== Proof.RefExponent.lean ====
module
public import proofs.«01_k».proof.Proof.RefRun
public import proofs.«01_k».proof.Proof.RefEntries
public import proofs.«01_k».proof.Proof.Exponent

/-! The reference's exponents, scales and codes, from a row's greatest magnitude. -/

@[expose] public section
set_option maxRecDepth 16384
noncomputable section
namespace Cert.ReferenceIdeal.Val
open Idealize.ShloMosaic Idealize.ShloMosaic.TcCoe Idealize.ShloMosaic.Tactic Cert.ReferenceIdeal.Gen
open Cert.KernelIdeal.Val (IsExp)

theorem two_word : Ideal.ofBits .f32 0x40000000#32 = ((2 : ℝ) : EReal) := by
  simp [Ideal.ofBits, Ideal.ieee]
  rw [← EReal.coe_mul]
  norm_num
theorem zero_word : Ideal.ofBits .f32 0x00000000#32 = 0 := by simp [Ideal.ofBits, Ideal.ieee]
theorem inf_word : Ideal.ofBits .f32 0x7F800000#32 = ⊤ := by simp [Ideal.ofBits, Ideal.ieee]

theorem tiny_word : Ideal.ofBits .f32 0x00800000#32 = (((2 : ℝ) ^ (-126 : ℤ) : ℝ) : EReal) := by
  simp [Ideal.ofBits, Ideal.ieee]
  rw [← EReal.coe_mul]
  norm_num

/-- Two to an integer. -/
theorem pow_two (e : ℤ) : Ideal.pow (Ideal.ofBits .f32 0x40000000#32) (((e : ℝ) : EReal)) = (((2 : ℝ) ^ e : ℝ) : EReal) := by
  rw [two_word, Ideal.pow_coe_coe]
  exact congrArg _ (Real.rpow_intCast 2 e)

/-- Entry `k` of the table of exponents is `k - 125`. -/
theorem tab_at (k : Fin 254) : tabV (ix1 k) = ((((k.val : ℤ) - 125 : ℤ) : ℝ) : EReal) := by
  rw [tabV_at]
  have H : ∀ k : Fin 254, (IntOp.addi 4294967171#32 (BitVec.ofNat 32 k.val)).toInt = (k.val : ℤ) - 125 := by decide +kernel
  show (((IntOp.addi 4294967171#32 (BitVec.ofNat 32 k.val)).toInt : ℝ) : EReal) = _
  rw [H]

/-- The least exponent whose power is above a normal `p`. -/
theorem least_exp (p : ℝ) (e : ℤ) (hp : 2 ^ (-126 : ℤ) ≤ p) (he : IsExp p e) :
    Finset.univ.fold min (⊤ : EReal) (fun k : Fin 254 => Scalar.select (BitVec.ofBool (decide ((p : EReal) < Ideal.pow (Ideal.ofBits .f32 0x40000000#32) (tabV (ix1 k)))))
      (tabV (ix1 k)) (⊤ : EReal)) = ((e : ℝ) : EReal) := by
  obtain ⟨l, u, -, h⟩ := he
  obtain ⟨h1, h2⟩ := h ((by positivity : (0 : ℝ) < 2 ^ (-126 : ℤ)).trans_le hp)
  have l' : -126 < e := (zpow_lt_zpow_iff_right₀ (by norm_num : (1 : ℝ) < 2)).1 (hp.trans_lt h1)
  simp only [tab_at, pow_two]
  apply le_antisymm
  · refine (Finset.fold_min_le _).2 (Or.inr ⟨⟨(e + 125).toNat, by omega⟩, Finset.mem_univ _, ?_⟩)
    have e1 : (((e + 125).toNat : ℤ) - 125) = e := by omega
    simp only [e1]
    rw [decide_eq_true (by exact_mod_cast h1)]
    exact le_rfl
  · refine (Finset.le_fold_min _).2 ⟨le_top, fun k _ => ?_⟩
    by_cases hk : p < (2 : ℝ) ^ ((k.val : ℤ) - 125)
    · rw [decide_eq_true (by exact_mod_cast hk)]
      show ((e : ℝ) : EReal) ≤ ((((k.val : ℤ) - 125 : ℤ) : ℝ) : EReal)
      have : e ≤ (k.val : ℤ) - 125 := by
        rcases h2 with h2 | h2
        · omega
        · have := (zpow_lt_zpow_iff_right₀ (by norm_num : (1 : ℝ) < 2)).1 (h2.trans_lt hk)
          omega
      exact_mod_cast this
    · rw [decide_eq_false (by exact_mod_cast hk)]
      exact le_top

/-- Where the row's greatest magnitude is the real `a` and its product with the reciprocal of the greatest code the real
    `p`, zero or normal, the reference's exponent is `p`'s. -/
theorem exp_at (x : FVec Ideal S8x2048x3584 .bf16) (b : Fin 8) (t : Fin 2048) (a p : ℝ) (e : ℤ)
    (ha : amaxV (rotR x) (ix3 b t 0) = (a : EReal)) (hp : pV (amaxV (rotR x)) (ix3 b t 0) = (p : EReal))
    (h0 : 0 ≤ a) (hap : a = 0 → p = 0) (hpa : a ≠ 0 → 2 ^ (-126 : ℤ) ≤ p) (he : IsExp p e) : expR x (ix3 b t 0) = ((e : ℝ) : EReal) := by
  unfold expR
  rw [expV_at, zeroV_at, ha, zero_word]
  by_cases h : a = 0
  · have hd : decide ((a : EReal) = 0) = true := decide_eq_true (by exact_mod_cast h)
    rw [hd, he.2.2.1 (hap h)]
    show (((0#32 : BitVec 32).toInt : ℝ) : EReal) = _
    simp
  · have hd : decide ((a : EReal) = 0) = false := decide_eq_false (by exact_mod_cast h)
    rw [hd]
    unfold Scalar.select
    rw [if_neg (by decide)]
    rw [expV_at, badV_at, hp, tiny_word, inf_word]
    have hn : decide ((p : EReal) < (((2 : ℝ) ^ (-126 : ℤ) : ℝ) : EReal)) = false := decide_eq_false (not_lt.2 (by exact_mod_cast hpa h))
    have ht : decide ((p : EReal) = ⊤) = false := decide_eq_false (EReal.coe_ne_top p)
    rw [hn, ht]
    unfold Scalar.select
    rw [if_neg (by decide)]
    rw [leastV_at, inf_word]
    simp only [candV_at, ltV_at, hp]
    rw [show (constant S_ .f32 0x7F800000#32 : FVec Ideal S_ .f32) ix0 = (⊤ : EReal) from inf_word]
    exact least_exp p e (hpa h) he

/-- Where the row's greatest magnitude is infinite, the reference's exponent is 0. -/
theorem exp_top (x : FVec Ideal S8x2048x3584 .bf16) (b : Fin 8) (t : Fin 2048)
    (ha : amaxV (rotR x) (ix3 b t 0) = (⊤ : EReal)) (hp : pV (amaxV (rotR x)) (ix3 b t 0) = (⊤ : EReal)) : expR x (ix3 b t 0) = (((0 : ℤ) : ℝ) : EReal) := by
  unfold expR
  rw [expV_at, zeroV_at, ha, zero_word, decide_eq_false (show ¬ (⊤ : EReal) = 0 by simp)]
  unfold Scalar.select
  rw [if_neg (by decide)]
  rw [expV_at, badV_at, hp, tiny_word, inf_word, decide_eq_true (rfl : (⊤ : EReal) = ⊤), decide_eq_false not_top_lt]
  show (((0#32 : BitVec 32).toInt : ℝ) : EReal) = _
  simp

/-- The scale there is two to that exponent. -/
theorem scale_at (x : FVec Ideal S8x2048x3584 .bf16) (b : Fin 8) (t : Fin 2048) (e : ℤ) (h : expR x (ix3 b t 0) = ((e : ℝ) : EReal)) :
    scaleR x (ix3 b t 0) = (((2 : ℝ) ^ e : ℝ) : EReal) := by
  unfold scaleR
  rw [pow2V_at, h, pow_two]

/-- The codes there are the rotated entries over that scale, clipped. -/
theorem codes_at (x : FVec Ideal S8x2048x3584 .bf16) (b : Fin 8) (t : Fin 2048) (j : Fin 3584) (e : ℤ) (h : expR x (ix3 b t 0) = ((e : ℝ) : EReal)) :
    codesR x (ix3 b t j) = min (Ideal.ofBits .f32 0x43E00000#32) (max (Ideal.ofBits .f32 0xC3E00000#32)
      (rotR x (ix3 b t j) * (((2 : ℝ) ^ (-e) : ℝ) : EReal))) := by
  unfold codesR
  rw [clipV_at, downV_at, h, show -(((e : ℝ) : EReal)) = (((((-e : ℤ)) : ℝ)) : EReal) by push_cast; rfl, pow_two]
  rfl

end Cert.ReferenceIdeal.Val
-- ==== Proof.Value.lean ====
module
public import proofs.«01_k».proof.Proof.Orthogonal
public import proofs.«01_k».proof.Proof.InRange
public import proofs.«01_k».proof.Proof.RefExponent
public import proofs.«01_k».proof.Proof.Arrays

/-! On activations in the precondition's range, the kernel's results are the reference's. -/

@[expose] public section
set_option maxRecDepth 16384
noncomputable section
namespace Cert.Equal
open Idealize.ShloMosaic Idealize.ShloMosaic.TcCoe Idealize.ShloMosaic.Tactic
open Cert.KernelIdeal (S8x2048x3584 S3584x18944 S18944)
open Cert.KernelIdeal.Val (rowK pOf scaleOf invOf codeOf scaleK codesK outK IsExp scale_spec scale_top ofBits_neg_inf)
open Cert.ReferenceIdeal.Val (rotR amaxV amaxV_at pV pV_at expR scaleR codesR outR exp_at exp_top scale_at codes_at)

/-- The word near the reciprocal of 448. -/
def down : ℝ := 9586981 * (2 ^ 32)⁻¹

theorem down_word : Ideal.ofBits .f32 0x3B124925#32 = (down : EReal) := by
  unfold down
  simp [Ideal.ofBits, Ideal.ieee]

theorem down_pos : 0 < down := by unfold down; norm_num

/-- The greatest magnitude among bounded reals is a real of the same bound. -/
theorem greatest_real (f : Fin 3584 → ℝ) (B : ℝ) (hf : ∀ j, |f j| ≤ B) :
    ∃ a : ℝ, 0 ≤ a ∧ a ≤ B ∧ Finset.univ.fold max (⊥ : EReal) (fun j => FloatOps.absf (F := Ideal) (φ := .f32) ((f j : ℝ) : EReal)) = (a : EReal) := by
  simp only [absf_coe]
  have lo : (0 : EReal) ≤ Finset.univ.fold max (⊥ : EReal) (fun j => ((|f j| : ℝ) : EReal)) :=
    (Finset.le_fold_max _).2 (Or.inr ⟨0, Finset.mem_univ _, by exact_mod_cast abs_nonneg _⟩)
  have hi : Finset.univ.fold max (⊥ : EReal) (fun j => ((|f j| : ℝ) : EReal)) ≤ (B : EReal) :=
    (Finset.fold_max_le _).2 ⟨bot_le, fun j _ => by exact_mod_cast hf j⟩
  generalize Finset.univ.fold max (⊥ : EReal) (fun j => ((|f j| : ℝ) : EReal)) = y at lo hi ⊢
  induction y using EReal.rec with
  | bot => simp at lo
  | top => simp at hi
  | coe a => exact ⟨a, by exact_mod_cast lo, by exact_mod_cast hi, rfl⟩

variable (x : S8x2048x3584.Idx → EReal) (X : S8x2048x3584.Idx → ℝ)

/-- A row's greatest rotated magnitude over 448 is zero or at least 2^-126. -/
theorem normal_row (b : Fin 8) (t : Fin 2048) (hX : InRange X b t) (a : ℝ)
    (ha : Finset.univ.fold max (⊥ : EReal) (fun j => FloatOps.absf (F := Ideal) (φ := .f32) ((rot X b t j : ℝ) : EReal)) = (a : EReal)) (h : a ≠ 0) :
    (2 : ℝ) ^ (-126 : ℤ) ≤ a * down := by
  simp only [absf_coe] at ha
  rcases hX.row with hz | ⟨k, hk⟩
  · refine absurd ?_ h
    simp only [rot_zero X b t hz, abs_zero] at ha
    apply le_antisymm
    · have := (Finset.fold_max_le (b := (⊥ : EReal)) (s := (Finset.univ : Finset (Fin 3584))) (f := fun _ => ((0 : ℝ) : EReal)) (0 : EReal)).2 ⟨bot_le, fun _ _ => le_rfl⟩
      rw [ha] at this
      exact_mod_cast this
    · have := (Finset.le_fold_max (b := (⊥ : EReal)) (s := (Finset.univ : Finset (Fin 3584))) (f := fun _ => ((0 : ℝ) : EReal)) (0 : EReal)).2 (Or.inr ⟨0, Finset.mem_univ _, le_rfl⟩)
      rw [ha] at this
      exact_mod_cast this
  · obtain ⟨j, hj⟩ := rot_large X b t k
    have hw : (0 : ℝ) ≤ wt := by unfold wt; norm_num
    have hle : |rot X b t j| ≤ a := by
      have := (Finset.le_fold_max (b := (⊥ : EReal)) (s := Finset.univ) (f := fun j => ((|rot X b t j| : ℝ) : EReal)) ((|rot X b t j| : ℝ) : EReal)).2 (Or.inr ⟨j, Finset.mem_univ _, le_rfl⟩)
      rw [ha] at this
      exact_mod_cast this
    have h1 : (2 : ℝ) ^ (-113 : ℤ) * wt ≤ a := ((mul_le_mul_of_nonneg_right hk hw).trans hj).trans hle
    refine le_trans ?_ (mul_le_mul_of_nonneg_right h1 down_pos.le)
    unfold wt down
    norm_num

/-- The exponent of a row of reals: the kernel's scale and the reference's exponent are both its. -/
theorem row_exp_real (b : Fin 8) (t : Fin 2048) (hx : ∀ k, x (ix3 b t k) = (X (ix3 b t k) : EReal)) (hX : InRange X b t) : ∃ e : ℤ,
    scaleOf (pOf (rowK x b t)) = (((2 : ℝ) ^ e : ℝ) : EReal) ∧ invOf (pOf (rowK x b t)) = (((2 : ℝ) ^ (-e) : ℝ) : EReal)
    ∧ expR x (ix3 b t 0) = ((e : ℝ) : EReal) := by
  obtain ⟨a, a0, aB, ha⟩ := greatest_real (rot X b t) _ (rot_bound X _ b t hX.le)
  have hk : rowK x b t = fun j => ((rot X b t j : ℝ) : EReal) := funext fun j => (rowK_eq x b t j).trans (rotE_real X x b t hx j)
  have hp : pOf (rowK x b t) = ((a * down : ℝ) : EReal) := by
    rw [hk]
    unfold pOf
    rw [ha, down_word, EReal.coe_mul]
  have hm : amaxV (rotR x) (ix3 b t 0) = (a : EReal) := by
    rw [amaxV_at, ofBits_neg_inf, ← ha]
    exact Finset.fold_congr fun j _ => congrArg _ ((rotR_eq x b t j).trans (rotE_real X x b t hx j))
  have hq : pV (amaxV (rotR x)) (ix3 b t 0) = ((a * down : ℝ) : EReal) := by
    rw [pV_at, hm, down_word, EReal.coe_mul]
  have p0 : 0 ≤ a * down := mul_nonneg a0 down_pos.le
  have p1 : a * down < 2 ^ 126 := by
    refine (mul_le_mul_of_nonneg_right aB down_pos.le).trans_lt ?_
    unfold wt down
    norm_num
  obtain ⟨e, he, hs, hi⟩ := scale_spec _ p0 p1
  refine ⟨e, by rw [hp, hs], by rw [hp, hi], ?_⟩
  exact exp_at _ b t a _ e hm hq a0 (fun h => by rw [h, zero_mul]) (fun h => normal_row X b t hX a ha h) he

/-- The exponent of a row with an infinite entry is 0 on both sides. -/
theorem row_exp_top (b : Fin 8) (t : Fin 2048) (k : Fin 3584) (hx : x (ix3 b t k) = ⊤ ∨ x (ix3 b t k) = ⊥) :
    scaleOf (pOf (rowK x b t)) = (((2 : ℝ) ^ (0 : ℤ) : ℝ) : EReal) ∧ invOf (pOf (rowK x b t)) = (((2 : ℝ) ^ (-0 : ℤ) : ℝ) : EReal)
    ∧ expR x (ix3 b t 0) = (((0 : ℤ) : ℝ) : EReal) := by
  have ha : Finset.univ.fold max (⊥ : EReal) (fun j => FloatOps.absf (F := Ideal) (φ := .f32) (rotE x b t j)) = ⊤ := by
    refine top_le_iff.1 ((Finset.le_fold_max _).2 (Or.inr ⟨k, Finset.mem_univ _, ?_⟩))
    show (⊤ : EReal) ≤ max (rotE x b t k) (-(rotE x b t k))
    rcases rotE_infinite x b t k hx with h | h <;> rw [h] <;> simp
  have ht : (⊤ : EReal) * (down : EReal) = ⊤ := EReal.top_mul_of_pos (by exact_mod_cast down_pos)
  have hp : pOf (rowK x b t) = ⊤ := by
    rw [show rowK x b t = rotE x b t from funext fun j => rowK_eq x b t j]
    unfold pOf
    rw [ha, down_word, ht]
  have hm : amaxV (rotR x) (ix3 b t 0) = (⊤ : EReal) := by
    rw [amaxV_at, ofBits_neg_inf, ← ha]
    exact Finset.fold_congr fun j _ => congrArg _ (rotR_eq x b t j)
  have hq : pV (amaxV (rotR x)) (ix3 b t 0) = (⊤ : EReal) := by
    rw [pV_at, hm, down_word, ht]
  rw [hp]
  exact ⟨scale_top.1, scale_top.2, exp_top x b t hm hq⟩

variable (hr : Rows x X)
include hr

/-- A row's exponent. -/
theorem row_exp (b : Fin 8) (t : Fin 2048) : ∃ e : ℤ,
    scaleOf (pOf (rowK x b t)) = (((2 : ℝ) ^ e : ℝ) : EReal) ∧ invOf (pOf (rowK x b t)) = (((2 : ℝ) ^ (-e) : ℝ) : EReal)
    ∧ expR x (ix3 b t 0) = ((e : ℝ) : EReal) := by
  rcases hr b t with ⟨k, hk⟩ | ⟨hx, hX⟩
  · exact ⟨0, row_exp_top x b t k hk⟩
  · exact row_exp_real x X b t hx hX

/-- The scales agree. -/
theorem scale_real (b : Fin 8) (t : Fin 2048) : scaleOf (pOf (rowK x b t)) = scaleR x (ix3 b t 0) := by
  obtain ⟨e, hs, -, he⟩ := row_exp x X hr b t
  rw [hs, scale_at _ b t e he]

/-- The codes agree. -/
theorem codes_real (b : Fin 8) (t : Fin 2048) (j : Fin 3584) :
    codeOf (pOf (rowK x b t)) (rowK x b t j) = codesR x (ix3 b t j) := by
  obtain ⟨e, -, hi, he⟩ := row_exp x X hr b t
  rw [codes_at _ b t j e he, rotR_eq]
  unfold codeOf
  rw [hi, rowK_eq]

/-- The second results, the codes, are equal. -/
theorem codes_eq : codesK x = codesR x := by
  funext i
  have hi : i = ix3 (i 0) (i 1) (i 2) := by funext k; fin_cases k <;> rfl
  refine (codes_real x X hr (i 0) (i 1) (i 2)).trans ?_
  exact congrArg _ hi.symm

/-- The third results, the scales, are equal. -/
theorem scale_eq : scaleK x = scaleR x := by
  funext i
  have hi : i = ix3 (i 0) (i 1) 0 := by
    funext k
    fin_cases k
    · rfl
    · rfl
    · exact Subsingleton.elim (α := Fin 1) _ _
  refine (scale_real x X hr (i 0) (i 1)).trans ?_
  exact congrArg _ hi.symm

/-- The first results, the outputs, are equal. -/
theorem out_eq (w : FVec Ideal S3584x18944 .fp8e4m3) (s : FVec Ideal S18944 .f32) :
    outK x w s = outR x w s := by
  funext i
  unfold outK outR
  rw [codes_eq x X hr, scale_eq x X hr]

end Cert.Equal
-- ==== Proof.Results.lean ====
module
public import proofs.«01_k».proof.Proof.Run
public import proofs.«01_k».proof.Proof.Value

/-! The reference's run from the kernel's arguments ends with the kernel's results. -/

@[expose] public section
noncomputable section
open Idealize.ShloMosaic Idealize.ShloMosaic.TcCoe Idealize.SL.Sem

/-- The reference's run from arguments equal to the kernel's, the activations in the precondition's range: its results are the kernel's. -/
theorem Cert.Equal.reference_run
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (ρ : Dev Cert.ReferenceIdeal.nD → PrngReg)
    (hx : ∀ c : Dev Cert.KernelIdeal.nD, ∃ X, Cert.Equal.Rows (Cert.KernelIdeal.Val.ax m c) X)
    (h0 : ∀ c : Dev Cert.KernelIdeal.nD, Cert.ReferenceIdeal.Val.ax m' c = Cert.KernelIdeal.Val.ax m c)
    (h1 : ∀ c : Dev Cert.KernelIdeal.nD, Cert.ReferenceIdeal.Val.aw m' c = Cert.KernelIdeal.Val.aw m c)
    (h2 : ∀ c : Dev Cert.KernelIdeal.nD, Cert.ReferenceIdeal.Val.asc m' c = Cert.KernelIdeal.Val.asc m c) :
    θ_run (Cert.ReferenceIdeal.defs (F := Ideal)) (onTc (τ := Cert.ReferenceIdeal.τ) (Cert.ReferenceIdeal.main (F := Ideal))) ⟨m', fun _ => 0, ρ⟩ (fun r => ∀ c : Dev Cert.ReferenceIdeal.nD,
      r.2.mem ((c.tc : Thread Cert.ReferenceIdeal.nD Cert.ReferenceIdeal.τ).loc Cert.ReferenceIdeal.main_v53) = Cert.KernelIdeal.Val.outK (Cert.KernelIdeal.Val.ax m c) (Cert.KernelIdeal.Val.aw m c) (Cert.KernelIdeal.Val.asc m c)
      ∧ r.2.mem ((c.tc : Thread Cert.ReferenceIdeal.nD Cert.ReferenceIdeal.τ).loc Cert.ReferenceIdeal.main_v54) = Cert.KernelIdeal.Val.codesK (Cert.KernelIdeal.Val.ax m c)
      ∧ r.2.mem ((c.tc : Thread Cert.ReferenceIdeal.nD Cert.ReferenceIdeal.τ).loc Cert.ReferenceIdeal.main_v42) = Cert.KernelIdeal.Val.scaleK (Cert.KernelIdeal.Val.ax m c)
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) := by
  refine (θ_run _ _ _).mono (fun _ h c => ?_) (Cert.ReferenceIdeal.Val.run m' ρ)
  obtain ⟨a, b, d, e⟩ := h c
  rw [h0 c, h1 c, h2 c] at a
  rw [h0 c] at b d
  obtain ⟨X, hr⟩ := hx c
  exact ⟨a.trans (Cert.Equal.out_eq _ X hr _ _).symm, b.trans (Cert.Equal.codes_eq _ X hr).symm, d.trans (Cert.Equal.scale_eq _ X hr).symm, e⟩
-- ==== Proof.lean ====
/- The proof of the certificate's claim (`Cert.Claim`): every program's run ends with its arguments as it found them, and on
   arguments of which the precondition holds the kernel's three results are the reference's. The runs' results are computed in
   `Proof/Run.lean` (the kernel's) and `Proof/RefRun.lean` (the reference's), what the precondition says is in
   `Proof/InRange.lean`, and that the results are equal is in `Proof/Value.lean`;
   `Proof/Results.lean` puts the two runs side by side. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_in_range
public import proofs.«01_k».proof.Proof.Results
public import Idealize.ShloMosaic.Adequacy
public import Idealize.ShloMosaic.Init

@[expose] public section

theorem Cert.Proof.claim : Cert.Claim :=
  ⟨Cert.Kernel.Gen.facts, Cert.KernelIdeal.Gen.facts, Cert.ReferenceIdeal.Gen.facts, Cert.Pre_in_range.Gen.facts,
    fun m ρ _ => Cert.Kernel.Gen.frame m ρ, fun m ρ _ => Cert.KernelIdeal.Gen.frame m ρ,
    fun m ρ _ => Cert.KernelIdeal.Gen.frame m ρ,
    fun m ρ _ => Cert.ReferenceIdeal.Gen.frame m ρ, fun m ρ _ => Cert.ReferenceIdeal.Gen.frame m ρ,
    trivial,
    fun m g m' g' hpre hargs => ⟨_, _, _, Cert.KernelIdeal.Val.run m g,
      Cert.Equal.reference_run m m' g' (fun c => ⟨_, Cert.Equal.in_range_rows _ _ _ (hpre c)⟩) (fun c => (hargs c).1) (fun c => (hargs c).2.1) (fun c => (hargs c).2.2)⟩⟩
